-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32 : Shape := ⟨2, ![128, 32]⟩
abbrev S65536x32 : Shape := ⟨2, ![65536, 32]⟩
abbrev S32x65536 : Shape := ⟨2, ![32, 65536]⟩
abbrev S16384x128 : Shape := ⟨2, ![16384, 128]⟩
abbrev S1x1 : Shape := ⟨2, ![1, 1]⟩
abbrev S2048x128 : Shape := ⟨2, ![2048, 128]⟩
abbrev S128x2048 : Shape := ⟨2, ![128, 2048]⟩
abbrev S128x512 : Shape := ⟨2, ![128, 512]⟩
abbrev S128x128 : Shape := ⟨2, ![128, 128]⟩
abbrev S128x1 : Shape := ⟨2, ![128, 1]⟩
abbrev S32x2048 : Shape := ⟨2, ![32, 2048]⟩
abbrev S128 : Shape := ⟨1, ![128]⟩
abbrev S512x128 : Shape := ⟨2, ![512, 128]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S128x32, .f32⟩
  | .hbm, ⟨1, _⟩ => ⟨S65536x32, .f32⟩
  | .hbm, ⟨2, _⟩ => ⟨S32x65536, .f32⟩
  | .hbm, ⟨3, _⟩ => ⟨S16384x128, .f32⟩
  | .hbm, ⟨4, _⟩ => ⟨S1x1, .f32⟩
  | .local _ .vmem, ⟨0, _⟩ => ⟨S128x32, .f32⟩
  | .local _ .vmem, ⟨1, _⟩ => ⟨S32x65536, .f32⟩
  | .local _ .vmem, ⟨2, _⟩ => ⟨S16384x128, .f32⟩
  | .local _ .vmem, ⟨3, _⟩ => ⟨S1x1, .f32⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | _, _ => ⟨S128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c2048_i32 : BitVec 32 := 2048#32
  let v537 : BitVec 32 := Scalar.muli arg7 c2048_i32
  let v538 : Index := Scalar.indexCast v537
  let c0_234 : Index := 0#32
  ![v538.toNat, 0]
@[reducible] def k0_t2_loop : Scf.Loop 32 :=
  let c0_i32_18 : BitVec 32 := 0#32
  let c8_i32_19 : BitVec 32 := 8#32
  let v44 : BitVec 32 := Scalar.addi c0_i32_18 c8_i32_19
  let c1_i32_20 : BitVec 32 := 1#32
  ⟨c0_i32_18, v44, c1_i32_20⟩
def k0_off2 (k0_t2 : Fin k0_t2_loop.trips) (c0_i32_235 : BitVec 32) : Fin 2 → Nat :=
  let c0_236 : Index := 0#32
  let c0_i32_18 : BitVec 32 := 0#32
  let c1_i32_20 : BitVec 32 := 1#32
  let arg7 : BitVec 32 := Scf.iv c0_i32_18 c1_i32_20 k0_t2
  let c1_i32_234 : BitVec 32 := 1#32
  let v537 : BitVec 32 := Scalar.addi arg7 c1_i32_234
  let c7_i32 : BitVec 32 := 7#32
  let v538 : BitVec 32 := Scalar.minsi v537 c7_i32
  let v539 : BitVec 32 := Scalar.addi v538 c0_i32_235
  let c2048_i32 : BitVec 32 := 2048#32
  let v540 : BitVec 32 := Scalar.muli v539 c2048_i32
  let v541 : Index := Scalar.indexCast v540
  ![0, v541.toNat]
def k0_off3 (k0_t2 : Fin k0_t2_loop.trips) (c0_i32_248 : BitVec 32) : Fin 2 → Nat :=
  let c0_i32_18 : BitVec 32 := 0#32
  let c1_i32_20 : BitVec 32 := 1#32
  let arg7 : BitVec 32 := Scf.iv c0_i32_18 c1_i32_20 k0_t2
  let v563 : BitVec 32 := Scalar.addi arg7 c0_i32_248
  let c512_i32 : BitVec 32 := 512#32
  let v580 : BitVec 32 := Scalar.muli v563 c512_i32
  let v581 : Index := Scalar.indexCast v580
  let c0_252 : Index := 0#32
  ![v581.toNat, 0]
@[reducible] def k0_t3_loop : Scf.Loop 32 :=
  let c0_i32_41 : BitVec 32 := 0#32
  let c8_i32_42 : BitVec 32 := 8#32
  let v85 : BitVec 32 := Scalar.addi c0_i32_41 c8_i32_42
  let c1_i32_43 : BitVec 32 := 1#32
  ⟨c0_i32_41, v85, c1_i32_43⟩
def k0_off4 (k0_t3 : Fin k0_t3_loop.trips) (c0_i32_235 : BitVec 32) : Fin 2 → Nat :=
  let c0_236 : Index := 0#32
  let c0_i32_41 : BitVec 32 := 0#32
  let c1_i32_43 : BitVec 32 := 1#32
  let arg7 : BitVec 32 := Scf.iv c0_i32_41 c1_i32_43 k0_t3
  let c1_i32_234 : BitVec 32 := 1#32
  let v537 : BitVec 32 := Scalar.addi arg7 c1_i32_234
  let c7_i32 : BitVec 32 := 7#32
  let v538 : BitVec 32 := Scalar.minsi v537 c7_i32
  let v539 : BitVec 32 := Scalar.addi v538 c0_i32_235
  let c2048_i32 : BitVec 32 := 2048#32
  let v540 : BitVec 32 := Scalar.muli v539 c2048_i32
  let v541 : Index := Scalar.indexCast v540
  ![0, v541.toNat]
def k0_off5 (k0_t3 : Fin k0_t3_loop.trips) (c0_i32_248 : BitVec 32) : Fin 2 → Nat :=
  let c0_i32_41 : BitVec 32 := 0#32
  let c1_i32_43 : BitVec 32 := 1#32
  let arg7 : BitVec 32 := Scf.iv c0_i32_41 c1_i32_43 k0_t3
  let v563 : BitVec 32 := Scalar.addi arg7 c0_i32_248
  let c512_i32 : BitVec 32 := 512#32
  let v580 : BitVec 32 := Scalar.muli v563 c512_i32
  let v581 : Index := Scalar.indexCast v580
  let c0_252 : Index := 0#32
  ![v581.toNat, 0]
@[reducible] def k0_t4_loop : Scf.Loop 32 :=
  let c0_i32_65 : BitVec 32 := 0#32
  let c8_i32_66 : BitVec 32 := 8#32
  let v126 : BitVec 32 := Scalar.addi c0_i32_65 c8_i32_66
  let c1_i32_67 : BitVec 32 := 1#32
  ⟨c0_i32_65, v126, c1_i32_67⟩
def k0_off6 (k0_t4 : Fin k0_t4_loop.trips) (c0_i32_235 : BitVec 32) : Fin 2 → Nat :=
  let c0_236 : Index := 0#32
  let c0_i32_65 : BitVec 32 := 0#32
  let c1_i32_67 : BitVec 32 := 1#32
  let arg7 : BitVec 32 := Scf.iv c0_i32_65 c1_i32_67 k0_t4
  let c1_i32_234 : BitVec 32 := 1#32
  let v537 : BitVec 32 := Scalar.addi arg7 c1_i32_234
  let c7_i32 : BitVec 32 := 7#32
  let v538 : BitVec 32 := Scalar.minsi v537 c7_i32
  let v539 : BitVec 32 := Scalar.addi v538 c0_i32_235
  let c2048_i32 : BitVec 32 := 2048#32
  let v540 : BitVec 32 := Scalar.muli v539 c2048_i32
  let v541 : Index := Scalar.indexCast v540
  ![0, v541.toNat]
def k0_off7 (k0_t4 : Fin k0_t4_loop.trips) (c0_i32_248 : BitVec 32) : Fin 2 → Nat :=
  let c0_i32_65 : BitVec 32 := 0#32
  let c1_i32_67 : BitVec 32 := 1#32
  let arg7 : BitVec 32 := Scf.iv c0_i32_65 c1_i32_67 k0_t4
  let v563 : BitVec 32 := Scalar.addi arg7 c0_i32_248
  let c512_i32 : BitVec 32 := 512#32
  let v580 : BitVec 32 := Scalar.muli v563 c512_i32
  let v581 : Index := Scalar.indexCast v580
  let c0_252 : Index := 0#32
  ![v581.toNat, 0]
@[reducible] def k0_t5_loop : Scf.Loop 32 :=
  let c0_i32_89 : BitVec 32 := 0#32
  let c8_i32_90 : BitVec 32 := 8#32
  let v167 : BitVec 32 := Scalar.addi c0_i32_89 c8_i32_90
  let c1_i32_91 : BitVec 32 := 1#32
  ⟨c0_i32_89, v167, c1_i32_91⟩
def k0_off8 (k0_t5 : Fin k0_t5_loop.trips) (c0_i32_235 : BitVec 32) : Fin 2 → Nat :=
  let c0_236 : Index := 0#32
  let c0_i32_89 : BitVec 32 := 0#32
  let c1_i32_91 : BitVec 32 := 1#32
  let arg7 : BitVec 32 := Scf.iv c0_i32_89 c1_i32_91 k0_t5
  let c1_i32_234 : BitVec 32 := 1#32
  let v537 : BitVec 32 := Scalar.addi arg7 c1_i32_234
  let c7_i32 : BitVec 32 := 7#32
  let v538 : BitVec 32 := Scalar.minsi v537 c7_i32
  let v539 : BitVec 32 := Scalar.addi v538 c0_i32_235
  let c2048_i32 : BitVec 32 := 2048#32
  let v540 : BitVec 32 := Scalar.muli v539 c2048_i32
  let v541 : Index := Scalar.indexCast v540
  ![0, v541.toNat]
def k0_off9 (k0_t5 : Fin k0_t5_loop.trips) (c0_i32_248 : BitVec 32) : Fin 2 → Nat :=
  let c0_i32_89 : BitVec 32 := 0#32
  let c1_i32_91 : BitVec 32 := 1#32
  let arg7 : BitVec 32 := Scf.iv c0_i32_89 c1_i32_91 k0_t5
  let v563 : BitVec 32 := Scalar.addi arg7 c0_i32_248
  let c512_i32 : BitVec 32 := 512#32
  let v580 : BitVec 32 := Scalar.muli v563 c512_i32
  let v581 : Index := Scalar.indexCast v580
  let c0_252 : Index := 0#32
  ![v581.toNat, 0]
@[reducible] def k0_t6_loop : Scf.Loop 32 :=
  let c0_i32_113 : BitVec 32 := 0#32
  let c8_i32_114 : BitVec 32 := 8#32
  let v208 : BitVec 32 := Scalar.addi c0_i32_113 c8_i32_114
  let c1_i32_115 : BitVec 32 := 1#32
  ⟨c0_i32_113, v208, c1_i32_115⟩
def k0_off10 (k0_t6 : Fin k0_t6_loop.trips) (c0_i32_235 : BitVec 32) : Fin 2 → Nat :=
  let c0_236 : Index := 0#32
  let c0_i32_113 : BitVec 32 := 0#32
  let c1_i32_115 : BitVec 32 := 1#32
  let arg7 : BitVec 32 := Scf.iv c0_i32_113 c1_i32_115 k0_t6
  let c1_i32_234 : BitVec 32 := 1#32
  let v537 : BitVec 32 := Scalar.addi arg7 c1_i32_234
  let c7_i32 : BitVec 32 := 7#32
  let v538 : BitVec 32 := Scalar.minsi v537 c7_i32
  let v539 : BitVec 32 := Scalar.addi v538 c0_i32_235
  let c2048_i32 : BitVec 32 := 2048#32
  let v540 : BitVec 32 := Scalar.muli v539 c2048_i32
  let v541 : Index := Scalar.indexCast v540
  ![0, v541.toNat]
def k0_off11 (k0_t6 : Fin k0_t6_loop.trips) (c0_i32_248 : BitVec 32) : Fin 2 → Nat :=
  let c0_i32_113 : BitVec 32 := 0#32
  let c1_i32_115 : BitVec 32 := 1#32
  let arg7 : BitVec 32 := Scf.iv c0_i32_113 c1_i32_115 k0_t6
  let v563 : BitVec 32 := Scalar.addi arg7 c0_i32_248
  let c512_i32 : BitVec 32 := 512#32
  let v580 : BitVec 32 := Scalar.muli v563 c512_i32
  let v581 : Index := Scalar.indexCast v580
  let c0_252 : Index := 0#32
  ![v581.toNat, 0]
@[reducible] def k0_t7_loop : Scf.Loop 32 :=
  let c0_i32_137 : BitVec 32 := 0#32
  let c8_i32_138 : BitVec 32 := 8#32
  let v249 : BitVec 32 := Scalar.addi c0_i32_137 c8_i32_138
  let c1_i32_139 : BitVec 32 := 1#32
  ⟨c0_i32_137, v249, c1_i32_139⟩
def k0_off12 (k0_t7 : Fin k0_t7_loop.trips) (c0_i32_235 : BitVec 32) : Fin 2 → Nat :=
  let c0_236 : Index := 0#32
  let c0_i32_137 : BitVec 32 := 0#32
  let c1_i32_139 : BitVec 32 := 1#32
  let arg7 : BitVec 32 := Scf.iv c0_i32_137 c1_i32_139 k0_t7
  let c1_i32_234 : BitVec 32 := 1#32
  let v537 : BitVec 32 := Scalar.addi arg7 c1_i32_234
  let c7_i32 : BitVec 32 := 7#32
  let v538 : BitVec 32 := Scalar.minsi v537 c7_i32
  let v539 : BitVec 32 := Scalar.addi v538 c0_i32_235
  let c2048_i32 : BitVec 32 := 2048#32
  let v540 : BitVec 32 := Scalar.muli v539 c2048_i32
  let v541 : Index := Scalar.indexCast v540
  ![0, v541.toNat]
def k0_off13 (k0_t7 : Fin k0_t7_loop.trips) (c0_i32_248 : BitVec 32) : Fin 2 → Nat :=
  let c0_i32_137 : BitVec 32 := 0#32
  let c1_i32_139 : BitVec 32 := 1#32
  let arg7 : BitVec 32 := Scf.iv c0_i32_137 c1_i32_139 k0_t7
  let v563 : BitVec 32 := Scalar.addi arg7 c0_i32_248
  let c512_i32 : BitVec 32 := 512#32
  let v580 : BitVec 32 := Scalar.muli v563 c512_i32
  let v581 : Index := Scalar.indexCast v580
  let c0_252 : Index := 0#32
  ![v581.toNat, 0]
@[reducible] def k0_t8_loop : Scf.Loop 32 :=
  let c0_i32_161 : BitVec 32 := 0#32
  let c8_i32_162 : BitVec 32 := 8#32
  let v290 : BitVec 32 := Scalar.addi c0_i32_161 c8_i32_162
  let c1_i32_163 : BitVec 32 := 1#32
  ⟨c0_i32_161, v290, c1_i32_163⟩
def k0_off14 (k0_t8 : Fin k0_t8_loop.trips) (c0_i32_235 : BitVec 32) : Fin 2 → Nat :=
  let c0_236 : Index := 0#32
  let c0_i32_161 : BitVec 32 := 0#32
  let c1_i32_163 : BitVec 32 := 1#32
  let arg7 : BitVec 32 := Scf.iv c0_i32_161 c1_i32_163 k0_t8
  let c1_i32_234 : BitVec 32 := 1#32
  let v537 : BitVec 32 := Scalar.addi arg7 c1_i32_234
  let c7_i32 : BitVec 32 := 7#32
  let v538 : BitVec 32 := Scalar.minsi v537 c7_i32
  let v539 : BitVec 32 := Scalar.addi v538 c0_i32_235
  let c2048_i32 : BitVec 32 := 2048#32
  let v540 : BitVec 32 := Scalar.muli v539 c2048_i32
  let v541 : Index := Scalar.indexCast v540
  ![0, v541.toNat]
def k0_off15 (k0_t8 : Fin k0_t8_loop.trips) (c0_i32_248 : BitVec 32) : Fin 2 → Nat :=
  let c0_i32_161 : BitVec 32 := 0#32
  let c1_i32_163 : BitVec 32 := 1#32
  let arg7 : BitVec 32 := Scf.iv c0_i32_161 c1_i32_163 k0_t8
  let v563 : BitVec 32 := Scalar.addi arg7 c0_i32_248
  let c512_i32 : BitVec 32 := 512#32
  let v580 : BitVec 32 := Scalar.muli v563 c512_i32
  let v581 : Index := Scalar.indexCast v580
  let c0_252 : Index := 0#32
  ![v581.toNat, 0]
@[reducible] def k0_t9_loop : Scf.Loop 32 :=
  let c0_i32_185 : BitVec 32 := 0#32
  let c8_i32_186 : BitVec 32 := 8#32
  let v331 : BitVec 32 := Scalar.addi c0_i32_185 c8_i32_186
  let c1_i32_187 : BitVec 32 := 1#32
  ⟨c0_i32_185, v331, c1_i32_187⟩
def k0_off16 (k0_t9 : Fin k0_t9_loop.trips) (c0_i32_235 : BitVec 32) : Fin 2 → Nat :=
  let c0_236 : Index := 0#32
  let c0_i32_185 : BitVec 32 := 0#32
  let c1_i32_187 : BitVec 32 := 1#32
  let arg7 : BitVec 32 := Scf.iv c0_i32_185 c1_i32_187 k0_t9
  let c1_i32_234 : BitVec 32 := 1#32
  let v537 : BitVec 32 := Scalar.addi arg7 c1_i32_234
  let c7_i32 : BitVec 32 := 7#32
  let v538 : BitVec 32 := Scalar.minsi v537 c7_i32
  let v539 : BitVec 32 := Scalar.addi v538 c0_i32_235
  let c2048_i32 : BitVec 32 := 2048#32
  let v540 : BitVec 32 := Scalar.muli v539 c2048_i32
  let v541 : Index := Scalar.indexCast v540
  ![0, v541.toNat]
def k0_off17 (k0_t9 : Fin k0_t9_loop.trips) (c0_i32_248 : BitVec 32) : Fin 2 → Nat :=
  let c0_i32_185 : BitVec 32 := 0#32
  let c1_i32_187 : BitVec 32 := 1#32
  let arg7 : BitVec 32 := Scf.iv c0_i32_185 c1_i32_187 k0_t9
  let v563 : BitVec 32 := Scalar.addi arg7 c0_i32_248
  let c512_i32 : BitVec 32 := 512#32
  let v580 : BitVec 32 := Scalar.muli v563 c512_i32
  let v581 : Index := Scalar.indexCast v580
  let c0_252 : Index := 0#32
  ![v581.toNat, 0]
abbrev stage0_0 : Fin 1 → Memref sig .tc .vmem S128x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x65536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S128x32 : Shape := ⟨2, ![128, 32]⟩
abbrev S65536x32 : Shape := ⟨2, ![65536, 32]⟩
abbrev S_ : Shape := ⟨0, ![]⟩
abbrev S128x65536 : Shape := ⟨2, ![128, 65536]⟩
abbrev S8x128 : Shape := ⟨2, ![8, 128]⟩
abbrev S32x65536 : Shape := ⟨2, ![32, 65536]⟩
abbrev S128 : Shape := ⟨1, ![128]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩
abbrev S1x128 : Shape := ⟨2, ![1, 128]⟩
abbrev S128x8 : Shape := ⟨2, ![128, 8]⟩
abbrev S128x8x1 : Shape := ⟨3, ![128, 8, 1]⟩
abbrev S128x8x2 : Shape := ⟨3, ![128, 8, 2]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S128x32, .f32⟩
  | .hbm, ⟨1, _⟩ => ⟨S65536x32, .f32⟩
  | .hbm, ⟨2, _⟩ => ⟨S_, .f32⟩
  | .hbm, ⟨3, _⟩ => ⟨S128x65536, .f32⟩
  | .hbm, ⟨4, _⟩ => ⟨S_, .i32⟩
  | .hbm, ⟨5, _⟩ => ⟨S8x128, .i32⟩
  | .hbm, ⟨6, _⟩ => ⟨S_, .i32⟩
  | .hbm, ⟨7, _⟩ => ⟨S65536x32, .f32⟩
  | .hbm, ⟨8, _⟩ => ⟨S_, .i32⟩
  | .hbm, ⟨9, _⟩ => ⟨S128x32, .f32⟩
  | .hbm, ⟨10, _⟩ => ⟨S128x65536, .f32⟩
  | .hbm, ⟨11, _⟩ => ⟨S8x128, .i32⟩
  | .hbm, ⟨12, _⟩ => ⟨S_, .i32⟩
  | .hbm, ⟨13, _⟩ => ⟨S_, .i1⟩
  | .hbm, ⟨14, _⟩ => ⟨S32x65536, .f32⟩
  | .hbm, ⟨15, _⟩ => ⟨S128x65536, .f32⟩
  | .hbm, ⟨16, _⟩ => ⟨S128x65536, .f32⟩
  | .hbm, ⟨17, _⟩ => ⟨S128x65536, .i32⟩
  | .hbm, ⟨18, _⟩ => ⟨S_, .f32⟩
  | .hbm, ⟨19, _⟩ => ⟨S_, .i32⟩
  | .hbm, ⟨20, _⟩ => ⟨S128, .f32⟩
  | .hbm, ⟨21, _⟩ => ⟨S128, .i32⟩
  | .hbm, ⟨22, _⟩ => ⟨S128x1, .i32⟩
  | .hbm, ⟨23, _⟩ => ⟨S_, .i32⟩
  | .hbm, ⟨24, _⟩ => ⟨S128x1, .i32⟩
  | .hbm, ⟨25, _⟩ => ⟨S128x1, .i1⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x1, .i32⟩
  | .hbm, ⟨30, _⟩ => ⟨S128x1x1, .i32⟩
  | .hbm, ⟨31, _⟩ => ⟨S1, .i32⟩
  | .hbm, ⟨32, _⟩ => ⟨S_, .i32⟩
  | .hbm, ⟨33, _⟩ => ⟨S128x1x1, .i32⟩
  | .hbm, ⟨34, _⟩ => ⟨S128x1x1, .i1⟩
  | .hbm, ⟨35, _⟩ => ⟨S1x1x1, .i32⟩
  | .hbm, ⟨36, _⟩ => ⟨S128x1x1, .i32⟩
  | .hbm, ⟨37, _⟩ => ⟨S128x1x1, .i1⟩
  | .hbm, ⟨38, _⟩ => ⟨S128x1x1, .i1⟩
  | .hbm, ⟨39, _⟩ => ⟨S_, .i1⟩
  | .hbm, ⟨40, _⟩ => ⟨S128x1, .i1⟩
  | .hbm, ⟨41, _⟩ => ⟨S128x1, .f32⟩
  | .hbm, ⟨42, _⟩ => ⟨S_, .f32⟩
  | .hbm, ⟨43, _⟩ => ⟨S128x1, .f32⟩
  | .hbm, ⟨44, _⟩ => ⟨S128x1, .f32⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S128, .i32⟩
  | .hbm, ⟨52, _⟩ => ⟨S128x1, .i32⟩
  | .hbm, ⟨53, _⟩ => ⟨S128x32, .f32⟩
  | .hbm, ⟨54, _⟩ => ⟨S128x32, .f32⟩
  | .hbm, ⟨55, _⟩ => ⟨S128x32, .f32⟩
  | .hbm, ⟨56, _⟩ => ⟨S128x32, .f32⟩
  | .hbm, ⟨57, _⟩ => ⟨S1x128, .i32⟩
  | .hbm, ⟨58, _⟩ => ⟨S_, .i32⟩
  | .hbm, ⟨59, _⟩ => ⟨S8x128, .i32⟩
  | .hbm, ⟨60, _⟩ => ⟨S_, .i32⟩
  | .hbm, ⟨61, _⟩ => ⟨S_, .i32⟩
  | .hbm, ⟨62, _⟩ => ⟨S128, .i32⟩
  | .hbm, ⟨63, _⟩ => ⟨S128x1, .i32⟩
  | .hbm, ⟨64, _⟩ => ⟨S_, .f32⟩
  | .hbm, ⟨65, _⟩ => ⟨S128x65536, .f32⟩
  | .hbm, ⟨66, _⟩ => ⟨S128x8, .i32⟩
  | .hbm, ⟨67, _⟩ => ⟨S128x8, .i32⟩
  | .hbm, ⟨68, _⟩ => ⟨S_, .i32⟩
  | .hbm, ⟨69, _⟩ => ⟨S128x8, .i32⟩
  | .hbm, ⟨70, _⟩ => ⟨S128x8, .i1⟩
  | .hbm, ⟨71, _⟩ => ⟨S_, .i32⟩
  | .hbm, ⟨72, _⟩ => ⟨S128x8, .i32⟩
  | .hbm, ⟨73, _⟩ => ⟨S128x8, .i32⟩
  | .hbm, ⟨74, _⟩ => ⟨S128x8, .i32⟩
  | .hbm, ⟨75, _⟩ => ⟨S128x8x1, .i32⟩
  | .hbm, ⟨76, _⟩ => ⟨S1, .i32⟩
  | .hbm, ⟨77, _⟩ => ⟨S_, .i32⟩
  | .hbm, ⟨78, _⟩ => ⟨S128x8x1, .i32⟩
  | .hbm, ⟨79, _⟩ => ⟨S128x8x1, .i1⟩
  | .hbm, ⟨80, _⟩ => ⟨S1x1x1, .i32⟩
  | .hbm, ⟨81, _⟩ => ⟨S128x8x1, .i32⟩
  | .hbm, ⟨82, _⟩ => ⟨S128x8x1, .i1⟩
  | .hbm, ⟨83, _⟩ => ⟨S128x8x1, .i1⟩
  | .hbm, ⟨84, _⟩ => ⟨S_, .i1⟩
  | .hbm, ⟨85, _⟩ => ⟨S128x8, .i1⟩
  | .hbm, ⟨86, _⟩ => ⟨S128x8, .f32⟩
  | .hbm, ⟨87, _⟩ => ⟨S_, .f32⟩
  | .hbm, ⟨88, _⟩ => ⟨S128x8, .f32⟩
  | .hbm, ⟨89, _⟩ => ⟨S128x8, .f32⟩
  | .hbm, ⟨90, _⟩ => ⟨S_, .i32⟩
  | .hbm, ⟨91, _⟩ => ⟨S128x1, .i32⟩
  | .hbm, ⟨92, _⟩ => ⟨S128x1, .i1⟩
  | .hbm, ⟨93, _⟩ => ⟨S_, .i32⟩
  | .hbm, ⟨94, _⟩ => ⟨S128x1, .i32⟩
  | .hbm, ⟨95, _⟩ => ⟨S128x1, .i32⟩
  | .hbm, ⟨96, _⟩ => ⟨S128x1, .i32⟩
  | .hbm, ⟨97, _⟩ => ⟨S_, .i32⟩
  | .hbm, ⟨98, _⟩ => ⟨S128x8, .i32⟩
  | .hbm, ⟨99, _⟩ => ⟨S128x8, .i1⟩
  | .hbm, ⟨100, _⟩ => ⟨S_, .i32⟩
  | .hbm, ⟨101, _⟩ => ⟨S128x8, .i32⟩
  | .hbm, ⟨102, _⟩ => ⟨S128x8, .i32⟩
  | .hbm, ⟨103, _⟩ => ⟨S128x8, .i32⟩
  | .hbm, ⟨104, _⟩ => ⟨S128x8, .i32⟩
  | .hbm, ⟨105, _⟩ => ⟨S128x8x1, .i32⟩
  | .hbm, ⟨106, _⟩ => ⟨S128x8x1, .i32⟩
  | .hbm, ⟨107, _⟩ => ⟨S128x8x2, .i32⟩
  | .hbm, ⟨108, _⟩ => ⟨S128x65536, .f32⟩
  | .hbm, ⟨109, _⟩ => ⟨S128x32, .f32⟩
  | .hbm, ⟨110, _⟩ => ⟨S128x32, .f32⟩
  | .hbm, ⟨111, _⟩ => ⟨S128x32, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S128x65536, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S1x1, .f32⟩
  | _, _ => ⟨S128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_while0c_c_15 : Ref sig .tc := ⟨.hbm, 12, rfl⟩
abbrev main_while0c_v35 : Ref sig .tc := ⟨.hbm, 13, rfl⟩
abbrev main_while0b_v35 : Ref sig .tc := ⟨.hbm, 14, rfl⟩
abbrev main_while0b_v36 : Ref sig .tc := ⟨.hbm, 15, rfl⟩
abbrev main_while0b_v37 : Ref sig .tc := ⟨.hbm, 16, rfl⟩
abbrev main_while0b_call0_v0 : Ref sig .tc := ⟨.hbm, 17, rfl⟩
abbrev main_while0b_call0_cst : Ref sig .tc := ⟨.hbm, 18, rfl⟩
abbrev main_while0b_call0_c : Ref sig .tc := ⟨.hbm, 19, rfl⟩
abbrev main_while0b_call0_v1_0 : Ref sig .tc := ⟨.hbm, 20, rfl⟩
abbrev main_while0b_v38 : Ref sig .tc := ⟨.hbm, 21, rfl⟩
abbrev main_while0b_v39 : Ref sig .tc := ⟨.hbm, 22, rfl⟩
abbrev main_while0b_call1_c : Ref sig .tc := ⟨.hbm, 23, rfl⟩
abbrev main_while0b_call1_v0 : Ref sig .tc := ⟨.hbm, 24, rfl⟩
abbrev main_while0b_call1_v1 : Ref sig .tc := ⟨.hbm, 25, rfl⟩
abbrev main_while0b_call1_c_0 : Ref sig .tc := ⟨.hbm, 26, rfl⟩
abbrev main_while0b_call1_v2 : Ref sig .tc := ⟨.hbm, 27, rfl⟩
abbrev main_while0b_call1_v3 : Ref sig .tc := ⟨.hbm, 28, rfl⟩
abbrev main_while0b_call1_v4 : Ref sig .tc := ⟨.hbm, 29, rfl⟩
abbrev main_while0b_call1_v5 : Ref sig .tc := ⟨.hbm, 30, rfl⟩
abbrev main_while0b_call1_c_1 : Ref sig .tc := ⟨.hbm, 31, rfl⟩
abbrev main_while0b_call1_c_2 : Ref sig .tc := ⟨.hbm, 32, rfl⟩
abbrev main_while0b_call1_v6 : Ref sig .tc := ⟨.hbm, 33, rfl⟩
abbrev main_while0b_call1_v7 : Ref sig .tc := ⟨.hbm, 34, rfl⟩
abbrev main_while0b_call1_v8 : Ref sig .tc := ⟨.hbm, 35, rfl⟩
abbrev main_while0b_call1_v9 : Ref sig .tc := ⟨.hbm, 36, rfl⟩
abbrev main_while0b_call1_v10 : Ref sig .tc := ⟨.hbm, 37, rfl⟩
abbrev main_while0b_call1_v11 : Ref sig .tc := ⟨.hbm, 38, rfl⟩
abbrev main_while0b_call1_c_3 : Ref sig .tc := ⟨.hbm, 39, rfl⟩
abbrev main_while0b_call1_v12 : Ref sig .tc := ⟨.hbm, 40, rfl⟩
abbrev main_while0b_call1_v13 : Ref sig .tc := ⟨.hbm, 41, rfl⟩
abbrev main_while0b_call1_cst : Ref sig .tc := ⟨.hbm, 42, rfl⟩
abbrev main_while0b_call1_v14 : Ref sig .tc := ⟨.hbm, 43, rfl⟩
abbrev main_while0b_v40 : Ref sig .tc := ⟨.hbm, 44, rfl⟩
abbrev main_while0b_c_15 : Ref sig .tc := ⟨.hbm, 45, rfl⟩
abbrev main_while0b_v41 : Ref sig .tc := ⟨.hbm, 46, rfl⟩
abbrev main_while0b_v42 : Ref sig .tc := ⟨.hbm, 47, rfl⟩
abbrev main_while0b_c_16 : Ref sig .tc := ⟨.hbm, 48, rfl⟩
abbrev main_while0b_v43 : Ref sig .tc := ⟨.hbm, 49, rfl⟩
abbrev main_while0b_v44 : Ref sig .tc := ⟨.hbm, 50, rfl⟩
abbrev main_while0b_v45 : Ref sig .tc := ⟨.hbm, 51, rfl⟩
abbrev main_while0b_v46 : Ref sig .tc := ⟨.hbm, 52, rfl⟩
abbrev main_while0b_v47 : Ref sig .tc := ⟨.hbm, 53, rfl⟩
abbrev main_while0b_v48 : Ref sig .tc := ⟨.hbm, 54, rfl⟩
abbrev main_while0b_v49 : Ref sig .tc := ⟨.hbm, 55, rfl⟩
abbrev main_while0b_v50 : Ref sig .tc := ⟨.hbm, 56, rfl⟩
abbrev main_while0b_call2_v0 : Ref sig .tc := ⟨.hbm, 57, rfl⟩
abbrev main_while0b_call2_c : Ref sig .tc := ⟨.hbm, 58, rfl⟩
abbrev main_while0b_v51 : Ref sig .tc := ⟨.hbm, 59, rfl⟩
abbrev main_while0b_c_17 : Ref sig .tc := ⟨.hbm, 60, rfl⟩
abbrev main_while0b_v52 : Ref sig .tc := ⟨.hbm, 61, rfl⟩
abbrev main_v3 : Ref sig .tc := ⟨.hbm, 62, rfl⟩
abbrev main_v4 : Ref sig .tc := ⟨.hbm, 63, rfl⟩
abbrev main_cst_1 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_call3_c : Ref sig .tc := ⟨.hbm, 68, rfl⟩
abbrev main_call3_v0 : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_c_1 : Ref sig .tc := ⟨.hbm, 76, rfl⟩
abbrev main_call3_c_2 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_3 : Ref sig .tc := ⟨.hbm, 84, rfl⟩
abbrev main_call3_v12 : Ref sig .tc := ⟨.hbm, 85, rfl⟩
abbrev main_call3_v13 : Ref sig .tc := ⟨.hbm, 86, rfl⟩
abbrev main_call3_cst : Ref sig .tc := ⟨.hbm, 87, rfl⟩
abbrev main_call3_v14 : Ref sig .tc := ⟨.hbm, 88, rfl⟩
abbrev main_v8 : Ref sig .tc := ⟨.hbm, 89, rfl⟩
abbrev main_c_2 : Ref sig .tc := ⟨.hbm, 90, rfl⟩
abbrev main_v9 : Ref sig .tc := ⟨.hbm, 91, rfl⟩
abbrev main_v10 : Ref sig .tc := ⟨.hbm, 92, rfl⟩
abbrev main_c_3 : Ref sig .tc := ⟨.hbm, 93, rfl⟩
abbrev main_v11 : Ref sig .tc := ⟨.hbm, 94, rfl⟩
abbrev main_v12 : Ref sig .tc := ⟨.hbm, 95, rfl⟩
abbrev main_v13 : Ref sig .tc := ⟨.hbm, 96, rfl⟩
abbrev main_c_4 : Ref sig .tc := ⟨.hbm, 97, rfl⟩
abbrev main_v14 : Ref sig .tc := ⟨.hbm, 98, rfl⟩
abbrev main_v15 : Ref sig .tc := ⟨.hbm, 99, rfl⟩
abbrev main_c_5 : Ref sig .tc := ⟨.hbm, 100, rfl⟩
abbrev main_v16 : Ref sig .tc := ⟨.hbm, 101, rfl⟩
abbrev main_v17 : Ref sig .tc := ⟨.hbm, 102, rfl⟩
abbrev main_v18 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_cst_6 : Ref sig .tc := ⟨.hbm, 112, rfl⟩
abbrev main_v27 : Ref sig .tc := ⟨.hbm, 113, rfl⟩
abbrev main_cst_7 : Ref sig .tc := ⟨.hbm, 114, rfl⟩
abbrev main_v28 : Ref sig .tc := ⟨.hbm, 115, rfl⟩
abbrev main_v29 : Ref sig .tc := ⟨.hbm, 116, rfl⟩
abbrev main_cst_8 : Ref sig .tc := ⟨.hbm, 117, rfl⟩
abbrev main_v30 : Ref sig .tc := ⟨.hbm, 118, rfl⟩
abbrev main_cst_9 : Ref sig .tc := ⟨.hbm, 119, rfl⟩
abbrev main_v31 : Ref sig .tc := ⟨.hbm, 120, rfl⟩
abbrev main_cst_10 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩

abbrev nD : Nat := 1
abbrev τ : Topo := Topo.v7x

variable {F : FTy → Type} [FloatOps F]

abbrev main_while0_count : Scf.Loop 32 := ⟨0#32, 8#32, 1#32⟩
-- ==== Proof.K.Split.lean ====
module
public import proofs.«01_k».proof.Proof.Gen.KernelIdeal.Frame.Runs
public import Idealize.ShloMosaic.Lib.Pipeline.Value
public import Idealize.ShloMosaic.Lib.WholeRead
public import Idealize.ShloMosaic.PureOps.Ideal.Laws
@[expose] public section
set_option maxRecDepth 16384
noncomputable section
namespace Cert.KernelIdeal.Pursuit
open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A value rounded to the short type. -/
def hi (x : F .f32) : F .bf16 := FloatOps.truncf (F := F) (φ := .f32) .bf16 bitsLt_bf16_f32 x
/-- What rounding left over. -/
def rest (x : F .f32) : F .f32 := FloatOps.subf (F := F) (φ := .f32) x (FloatOps.extf (F := F) (φ := .bf16) .f32 bitsLt_bf16_f32 (hi x))

/-- The first of the three scratch arrays: the packed dictionary rounded. -/
def high (D : Vec F S16384x128 .f32) : Vec F S16384x128 .bf16 := fun y => hi (F := F) (D y)
/-- The second: what the first left over, rounded. -/
def mid (D : Vec F S16384x128 .f32) : Vec F S16384x128 .bf16 := fun y => hi (F := F) (rest (F := F) (D y))
/-- The third: what the first two left over, rounded. -/
def low (D : Vec F S16384x128 .f32) : Vec F S16384x128 .bf16 := fun y => hi (F := F) (rest (F := F) (rest (F := F) (D y)))

variable (𝒱 : Variants) (c : Dev nD) (bd : Option 𝒱.V) (E : Set ℕ)
  (arg0 : Memref sig .tc .vmem S128x32 .f32) (harg0 : arg0.IsWhole) (arg1 : Memref sig .tc .vmem S32x65536 .f32) (harg1 : arg1.IsWhole)
  (arg2 : Memref sig .tc .vmem S16384x128 .f32) (harg2 : arg2.IsWhole) (arg3 : Memref sig .tc .vmem S1x1 .f32) (harg3 : arg3.IsWhole)
  (arg4 : Memref sig .tc .vmem S16384x128 .bf16) (harg4 : arg4.IsWhole) (arg5 : Memref sig .tc .vmem S16384x128 .bf16) (harg5 : arg5.IsWhole)
  (arg6 : Memref sig .tc .vmem S16384x128 .bf16) (harg6 : arg6.IsWhole)

variable (X : BufTy.Contents (Elt F) arg2.view.ty)

/-- The rows of the packed dictionary that trip `k` of the splitting loop reads. -/
abbrev rows (k : Fin k0_t1_loop.trips) : Vec F S2048x128 .f32 :=
  View.readAt (Elt F) arg2.view (Rect.unit (s := S16384x128) (k0_off1 k) S2048x128.size (k0_off1_inb k)).toLoadRect X

/-- The stores of the splitting loop's first `k` trips into one scratch array, last first: each trip's rows through `w`. -/
def pcs (w : Vec F S2048x128 .f32 → Vec F S2048x128 .bf16) : ℕ → List (View.Piece (Elt F) S16384x128 .bf16)
  | 0 => []
  | k + 1 => if h : k < k0_t1_loop.trips then
      ⟨Rect.unit (s := S16384x128) (k0_off1 ⟨k, h⟩) S2048x128.size (k0_off1_inb ⟨k, h⟩), w (rows arg2 X ⟨k, h⟩)⟩ :: pcs w k
    else pcs w k

/-- What the generated loop theorem says one trip stores. -/
theorem trip_pieces (k : Fin k0_t1_loop.trips) :
    tripL_k0_t1 𝒱 c bd arg0 harg0 arg1 harg1 arg2 harg2 arg3 harg3 arg4 harg4 arg5 harg5 arg6 harg6 X k
      = ([⟨Rect.unit (s := S16384x128) (k0_off1 k) S2048x128.size (k0_off1_inb k), k0_pay270 (rows arg2 X k)⟩],
         [⟨Rect.unit (s := S16384x128) (k0_off1 k) S2048x128.size (k0_off1_inb k), k0_pay271 (rows arg2 X k)⟩],
         [⟨Rect.unit (s := S16384x128) (k0_off1 k) S2048x128.size (k0_off1_inb k), k0_pay272 (rows arg2 X k)⟩]) := by
  unfold tripL_k0_t1 trip_k0_t1
  rfl

/-- The generated list of stores is `pcs`, for each of the three scratch arrays. -/
theorem pb_eq (k : ℕ) (hk : k ≤ k0_t1_loop.trips) :
    pb_k0_t1 𝒱 c bd arg0 harg0 arg1 harg1 arg2 harg2 arg3 harg3 arg4 harg4 arg5 harg5 arg6 harg6 X k
      = (pcs arg2 X k0_pay270 k, pcs arg2 X k0_pay271 k, pcs arg2 X k0_pay272 k) := by
  induction k with
  | zero => rfl
  | succ k ih =>
    have h : k < k0_t1_loop.trips := hk
    have := pb_k0_t1_succ 𝒱 c bd arg0 harg0 arg1 harg1 arg2 harg2 arg3 harg3 arg4 harg4 arg5 harg5 arg6 harg6 X ⟨k, h⟩
    rw [trip_pieces, ih (Nat.le_of_lt h)] at this
    rw [this]
    simp only [pcs, dif_pos h, List.cons_append, List.nil_append]

/-- A store of the list is some trip's. -/
theorem mem_pcs (w) : ∀ k p, p ∈ pcs arg2 X w k → ∃ j : Fin k0_t1_loop.trips,
    p = ⟨Rect.unit (s := S16384x128) (k0_off1 j) S2048x128.size (k0_off1_inb j), w (rows arg2 X j)⟩
  | 0, p, h => absurd h List.not_mem_nil
  | k + 1, p, h => by
    unfold pcs at h
    split at h
    · rename_i hk
      rcases List.mem_cons.1 h with rfl | h
      · exact ⟨_, rfl⟩
      · exact mem_pcs w k p h
    · exact mem_pcs w k p h

/-- Every trip's store is in the list. -/
theorem pcs_mem (w) (j : Fin k0_t1_loop.trips) : ∀ k, j.val < k →
    (⟨Rect.unit (s := S16384x128) (k0_off1 j) S2048x128.size (k0_off1_inb j), w (rows arg2 X j)⟩
      : View.Piece (Elt F) S16384x128 .bf16) ∈ pcs arg2 X w k
  | 0, h => absurd h (Nat.not_lt_zero _)
  | k + 1, h => by
    unfold pcs
    rcases Nat.lt_succ_iff_lt_or_eq.1 h with h | h
    · split
      · exact List.mem_cons_of_mem _ (pcs_mem w j k h)
      · exact pcs_mem w j k h
    · subst h
      rw [dif_pos j.isLt]; exact List.mem_cons_self

/-- The splitting loop runs eight trips. -/
theorem trips1 : k0_t1_loop.trips = 8 := by decide +kernel

/-- Where trip `k`'s rows start. -/
theorem off1_eq : ∀ k : Fin k0_t1_loop.trips, k0_off1 k = ![2048 * k.val, 0] := by decide +kernel

/-- After all trips the scratch array holds, at every index, `w` of the dictionary's entry there. -/
theorem read_pcs {arg : Memref sig .tc .vmem S16384x128 .bf16} (f : BufTy.Contents (Elt F) arg.view.ty)
    (w : Vec F S2048x128 .f32 → Vec F S2048x128 .bf16) (g : F .f32 → F .bf16)
    (hw : ∀ v x, w v x = g (v x)) :
    arg.view.read (Elt F) (arg.view.writes (Elt F) f (pcs arg2 X w k0_t1_loop.trips))
      = fun y => g (arg2.view.read (Elt F) X y) := by
  funext y
  apply View.read_writes_apply_of_pieces arg.view f (fun y => g (arg2.view.read (Elt F) X y))
  · intro p hp x
    obtain ⟨j, rfl⟩ := mem_pcs arg2 X w _ p hp
    exact hw _ _
  · have hy : (y 0).val < 16384 := (y 0).isLt
    have hj : (y 0).val / 2048 < k0_t1_loop.trips := by rw [trips1]; omega
    refine ⟨_, pcs_mem arg2 X w ⟨_, hj⟩ _ hj, ?_⟩
    rw [Rect.mem_set_unit]
    intro a
    rw [off1_eq]
    fin_cases a
    · constructor
      · show 2048 * ((y 0).val / 2048) ≤ (y 0).val; omega
      · show (y 0).val < 2048 * ((y 0).val / 2048) + 2048; omega
    · exact ⟨Nat.zero_le _, by show (y 1).val < 0 + 128; have : (y 1).val < 128 := (y 1).isLt; omega⟩

end Cert.KernelIdeal.Pursuit
-- ==== Proof.K.Scan.lean ====
module
public import proofs.«01_k».proof.Proof.K.Split
@[expose] public section
set_option maxRecDepth 16384
noncomputable section
namespace Cert.KernelIdeal.Pursuit
open Cert.KernelIdeal Cert.KernelIdeal.Gen Idealize.ShloMosaic Idealize.ShloMosaic.TcCoe

variable {F : FTy → Type} [FloatOps F]

/-- A step's inner products with one block of 2048 dictionary rows (the block transposed). -/
def dots (r : FVec F S128x32 .f32) (B : Vec F S32x2048 .f32) : FVec F S128x2048 .f32 :=
  matmul (φ₂ := .f32) dot_S128x32_S32x2048_S128x2048_1_0_0_1_n_n none r (B : FVec F S32x2048 .f32) (constant S128x2048 .f32 0x00000000#32)

/-- A block's largest magnitude, per sample. -/
def chunkMax (ip : FVec F S128x2048 .f32) : FVec F S128x1 .f32 :=
  shapeCast S128x1 (multiReduction .maximumf [1] S128 (absf ip) 0xFF800000#32 reduces_S128x2048_S128 (.inl rfl) rfl) shapeCasts_S128_S128x1

/-- The first column of the block that attains it (`col` numbers the columns). -/
def chunkIdx (col : IVec S128x2048 32) (ip : FVec F S128x2048 .f32) : IVec S128x1 32 :=
  shapeCast S128x1 (multiReductionI .minsi [1] S128
    (select (cmpf .oeq (absf ip) (broadcastTo S128x2048 (chunkMax ip) broadcasts_S128x1_S128x2048)) col (broadcast S128x2048 2048#32))
    2147483647#32 reduces_S128x2048_S128 rfl) shapeCasts_S128_S128x1

/-- The one-hot row that picks, out of 512 packed rows of four, the one holding column `l`. -/
def pick (col4 : IVec S128x512 32) (l : IVec S128x1 32) : FVec F S128x512 .bf16 :=
  truncf .bf16 (sitofp .f32 (extui 32 (cmpi .eq col4 (broadcastTo S128x512 (shrui l (broadcast S128x1 2#32)) broadcasts_S128x1_S128x512)) natLt_1_32)) bitsLt_bf16_f32

/-- One product of a one-hot row with 512 packed rows. -/
def fetch (o : FVec F S128x512 .bf16) (h : Vec F S512x128 .bf16) : FVec F S128x128 .f32 :=
  matmul (φ₂ := .bf16) dot_S128x512_S512x128_S128x128_1_0_0_1_n_n none o (h : FVec F S512x128 .bf16) (constant S128x128 .f32 0x00000000#32)

variable (F) in
/-- A candidate, per sample: the largest magnitude so far, where, and the packed row there. -/
abbrev Cand : Type := FVec F S128x1 .f32 × IVec S128x1 32 × FVec F S128x128 .f32

/-- The candidate of block `n`. -/
def chunk (col : IVec S128x2048 32) (col4 : IVec S128x512 32) (n : BitVec 32) (ip : FVec F S128x2048 .f32) (h1 h2 h3 : Vec F S512x128 .bf16) : Cand F :=
  (chunkMax ip, addi (chunkIdx col ip) (broadcast S128x1 (Scalar.muli n 2048#32)),
    addf (addf (fetch (pick col4 (chunkIdx col ip)) h1) (fetch (pick col4 (chunkIdx col ip)) h2)) (fetch (pick col4 (chunkIdx col ip)) h3))

/-- The second candidate where `u` holds, else the first. -/
def choose (u : IVec S128x1 1) (b a : Cand F) : Cand F :=
  (select u b.1 a.1, select u b.2.1 a.2.1,
    select (broadcastTo S128x128 (shapeCast S128x1 u shapeCasts_S128x1_S128x1) broadcasts_S128x1_S128x128) b.2.2 a.2.2)

/-- The better of two blocks' candidates: the second only where strictly larger. -/
def merge (a b : Cand F) : Cand F := choose (cmpf .ogt b.1 a.1) b a

/-- The running candidate updated: a new one replaces it where larger, or as large and earlier. -/
def better (run new : Cand F) : Cand F :=
  choose (ori (cmpf .ogt new.1 run.1) (andi (cmpf .oeq new.1 run.1) (cmpi .slt new.2.1 run.2.1))) new run

/-- 2048 columns of the transposed dictionary, from column `o`. -/
def cols (D : Vec F S32x65536 .f32) (o : ℕ) : Vec F S32x2048 .f32 :=
  fun i => D (fun | 0 => i 0 | 1 => ⟨(o + (i 1).val) % 65536, Nat.mod_lt _ (by decide)⟩)

/-- 512 packed rows, from row `o`. -/
def rows4 (H : Vec F S16384x128 .bf16) (o : ℕ) : Vec F S512x128 .bf16 :=
  fun i => H (fun | 0 => ⟨(o + (i 0).val) % 16384, Nat.mod_lt _ (by decide)⟩ | 1 => i 1)

variable (F) in
/-- What a trip carries: the running candidate and the next group's four blocks of inner products. -/
abbrev Acc : Type := FVec F S128x1 .f32 × IVec S128x1 32 × FVec F S128x128 .f32 × FVec F S128x2048 .f32 × FVec F S128x2048 .f32 × FVec F S128x2048 .f32 × FVec F S128x2048 .f32

variable (col : IVec S128x2048 32) (col4 : IVec S128x512 32) (r : FVec F S128x32 .f32) (D : Vec F S32x65536 .f32)
  (H1 H2 H3 : Vec F S16384x128 .bf16)

/-- The candidate of the block `8 j` after trip `k`'s own. -/
def cand (k j : ℕ) (ip : FVec F S128x2048 .f32) : Cand F :=
  chunk col col4 (BitVec.ofNat 32 (k + 8 * j)) ip (rows4 H1 (512 * k + 4096 * j)) (rows4 H2 (512 * k + 4096 * j)) (rows4 H3 (512 * k + 4096 * j))

/-- One trip over the four blocks `k`, `k + 8`, `k + 16`, `k + 24`. -/
def trip (k : ℕ) (a : Acc F) : Acc F :=
  let b := better (a.1, a.2.1, a.2.2.1)
    (merge (merge (cand col col4 H1 H2 H3 k 0 a.2.2.2.1) (cand col col4 H1 H2 H3 k 1 a.2.2.2.2.1))
      (merge (cand col col4 H1 H2 H3 k 2 a.2.2.2.2.2.1) (cand col col4 H1 H2 H3 k 3 a.2.2.2.2.2.2)))
  (b.1, b.2.1, b.2.2, dots r (cols D (2048 * min (k + 1) 7 + 16384 * 0)), dots r (cols D (2048 * min (k + 1) 7 + 16384 * 1)),
    dots r (cols D (2048 * min (k + 1) 7 + 16384 * 2)), dots r (cols D (2048 * min (k + 1) 7 + 16384 * 3)))

/-- The first `k` trips. -/
def scan (init : Acc F) : ℕ → Acc F
  | 0 => init
  | k + 1 => trip col col4 r D H1 H2 H3 k (scan init k)

section reads
variable {arg1 : Memref sig .tc .vmem S32x65536 .f32} (X1 : BufTy.Contents (Elt F) arg1.view.ty)
  {arg4 : Memref sig .tc .vmem S16384x128 .bf16} (X4 : BufTy.Contents (Elt F) arg4.view.ty)

/-- A load of 2048 columns of the transposed dictionary. -/
theorem load_cols {off : Fin 2 → ℕ} (o : ℕ) (ho : off = ![0, o]) (inb : ∀ a, off a + S32x2048.size a ≤ S32x65536.size a) :
    View.readAt (Elt F) arg1.view (Rect.unit (s := S32x65536) off S32x2048.size inb).toLoadRect X1
      = cols (arg1.view.read (Elt F) X1) o := by
  subst ho
  funext i
  have h1 : (i 1).val < 2048 := (i 1).isLt
  have h2 : o + 2048 ≤ 65536 := inb 1
  refine congrArg (arg1.view.read (Elt F) X1) (funext fun a => ?_)
  fin_cases a
  · exact Fin.ext (by show 0 + 1 * (i 0).val = (i 0).val; omega)
  · exact Fin.ext (by show o + 1 * (i 1).val = (o + (i 1).val) % 65536; omega)

/-- A load of 512 packed rows. -/
theorem load_rows {off : Fin 2 → ℕ} (o : ℕ) (ho : off = ![o, 0]) (inb : ∀ a, off a + S512x128.size a ≤ S16384x128.size a) :
    View.readAt (Elt F) arg4.view (Rect.unit (s := S16384x128) off S512x128.size inb).toLoadRect X4
      = rows4 (arg4.view.read (Elt F) X4) o := by
  subst ho
  funext i
  have h1 : (i 0).val < 512 := (i 0).isLt
  have h2 : o + 512 ≤ 16384 := inb 0
  refine congrArg (arg4.view.read (Elt F) X4) (funext fun a => ?_)
  fin_cases a
  · exact Fin.ext (by show o + 1 * (i 0).val = (o + (i 0).val) % 16384; omega)
  · exact Fin.ext (by show 0 + 1 * (i 1).val = (i 1).val; omega)
end reads

end Cert.KernelIdeal.Pursuit
-- ==== Proof.K.Exit.lean ====
module
public import proofs.«01_k».proof.Proof.K.Scan
@[expose] public section
set_option maxRecDepth 16384
noncomputable section
namespace Cert.KernelIdeal.Pursuit
open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section raw
variable (arg1 : Memref sig .tc .vmem S32x65536 .f32)
  (arg4 arg5 arg6 : Memref sig .tc .vmem S16384x128 .bf16)
  (X1 : BufTy.Contents (Elt F) arg1.view.ty) (X4 : BufTy.Contents (Elt F) arg4.view.ty) (X5 : BufTy.Contents (Elt F) arg5.view.ty) (X6 : BufTy.Contents (Elt F) arg6.view.ty)
  (col : IVec S128x2048 32) (col4 : IVec S128x512 32) (r : FVec F S128x32 .f32)
  (o2 o3 : BitVec 32 → Fin 2 → ℕ)
  (i2 : ∀ (q : Fin 4) a, o2 (BitVec.ofNat 32 (8 * q.val)) a + S32x2048.size a ≤ S32x65536.size a)
  (i3 : ∀ (q : Fin 4) a, o3 (BitVec.ofNat 32 (8 * q.val)) a + S512x128.size a ≤ S16384x128.size a)

/-- A trip's inner products as it takes them: of the block it loads. -/
def dotsAt (q : Fin 4) : FVec F S128x2048 .f32 :=
  matmul (φ₂ := .f32) dot_S128x32_S32x2048_S128x2048_1_0_0_1_n_n none r
    (shapeCast S32x2048 (View.readAt (Elt F) arg1.view (Rect.unit (s := S32x65536) (o2 (BitVec.ofNat 32 (8 * q.val))) S32x2048.size (i2 q)).toLoadRect X1) shapeCasts_S32x2048_S32x2048)
    (constant S128x2048 .f32 0x00000000#32)

/-- A trip's candidate as it takes it: from the packed rows it loads. -/
def candAt (n : BitVec 32) (q : Fin 4) (ip : FVec F S128x2048 .f32) : Cand F :=
  chunk col col4 n ip
    (View.readAt (Elt F) arg4.view (Rect.unit (s := S16384x128) (o3 (BitVec.ofNat 32 (8 * q.val))) S512x128.size (i3 q)).toLoadRect X4)
    (View.readAt (Elt F) arg5.view (Rect.unit (s := S16384x128) (o3 (BitVec.ofNat 32 (8 * q.val))) S512x128.size (i3 q)).toLoadRect X5)
    (View.readAt (Elt F) arg6.view (Rect.unit (s := S16384x128) (o3 (BitVec.ofNat 32 (8 * q.val))) S512x128.size (i3 q)).toLoadRect X6)

/-- One trip as the program takes it: blocks numbered by 32-bit words, rows and columns loaded where it says. -/
def tripAt (k : ℕ) (a : Acc F) : Acc F :=
  let iv := Scalar.addi (Scf.iv 0#32 1#32 k)
  let ca := candAt arg4 arg5 arg6 X4 X5 X6 col col4 o3 i3
  let b := better (a.1, a.2.1, a.2.2.1)
    (merge (merge (ca (iv 0#32) 0 a.2.2.2.1) (ca (iv 8#32) 1 a.2.2.2.2.1))
      (merge (ca (iv 16#32) 2 a.2.2.2.2.2.1) (ca (iv 24#32) 3 a.2.2.2.2.2.2)))
  (b.1, b.2.1, b.2.2, dotsAt arg1 X1 r o2 i2 0, dotsAt arg1 X1 r o2 i2 1, dotsAt arg1 X1 r o2 i2 2, dotsAt arg1 X1 r o2 i2 3)

/-- A block's number, by words and by naturals. -/
theorem block_no : ∀ (k : Fin 8) (q : Fin 4), Scalar.addi (Scf.iv 0#32 1#32 k.val) (BitVec.ofNat 32 (8 * q.val)) = BitVec.ofNat 32 (k.val + 8 * q.val) := by
  decide +kernel

/-- A trip as the program takes it is the trip over the whole arrays' contents. -/
theorem tripAt_eq (k : Fin 8)
    (h2 : ∀ q : Fin 4, o2 (BitVec.ofNat 32 (8 * q.val)) = ![0, 2048 * (min (k.val + 1) 7) + 16384 * q.val])
    (h3 : ∀ q : Fin 4, o3 (BitVec.ofNat 32 (8 * q.val)) = ![512 * k.val + 4096 * q.val, 0]) (a : Acc F) :
    tripAt arg1 arg4 arg5 arg6 X1 X4 X5 X6 col col4 r o2 o3 i2 i3 k.val a
      = trip col col4 r (arg1.view.read (Elt F) X1) (arg4.view.read (Elt F) X4) (arg5.view.read (Elt F) X5) (arg6.view.read (Elt F) X6) k.val a := by
  have hd : ∀ q : Fin 4, dotsAt arg1 X1 r o2 i2 q = dots r (cols (arg1.view.read (Elt F) X1) (2048 * min (k.val + 1) 7 + 16384 * q.val)) := by
    intro q
    unfold dotsAt dots
    exact congrArg (fun B => matmul (φ₂ := .f32) dot_S128x32_S32x2048_S128x2048_1_0_0_1_n_n none r B (constant S128x2048 .f32 0x00000000#32)) ((shapeCast_self _ _).trans (load_cols X1 _ (h2 q) _))
  have hc : ∀ (q : Fin 4) ip, candAt arg4 arg5 arg6 X4 X5 X6 col col4 o3 i3 (Scalar.addi (Scf.iv 0#32 1#32 k.val) (BitVec.ofNat 32 (8 * q.val))) q ip
      = cand col col4 (arg4.view.read (Elt F) X4) (arg5.view.read (Elt F) X5) (arg6.view.read (Elt F) X6) k.val q.val ip := by
    intro q ip
    unfold candAt cand
    rw [load_rows X4 _ (h3 q), load_rows X5 _ (h3 q), load_rows X6 _ (h3 q), block_no]
  have e0 := hc 0 a.2.2.2.1
  have e1 := hc 1 a.2.2.2.2.1
  have e2 := hc 2 a.2.2.2.2.2.1
  have e3 := hc 3 a.2.2.2.2.2.2
  have d0 := hd 0
  have d1 := hd 1
  have d2 := hd 2
  have d3 := hd 3
  unfold tripAt trip
  change candAt arg4 arg5 arg6 X4 X5 X6 col col4 o3 i3 (Scalar.addi (Scf.iv 0#32 1#32 k.val) 0#32) 0 _ = cand _ _ _ _ _ k.val 0 _ at e0
  change candAt arg4 arg5 arg6 X4 X5 X6 col col4 o3 i3 (Scalar.addi (Scf.iv 0#32 1#32 k.val) 8#32) 1 _ = cand _ _ _ _ _ k.val 1 _ at e1
  change candAt arg4 arg5 arg6 X4 X5 X6 col col4 o3 i3 (Scalar.addi (Scf.iv 0#32 1#32 k.val) 16#32) 2 _ = cand _ _ _ _ _ k.val 2 _ at e2
  change candAt arg4 arg5 arg6 X4 X5 X6 col col4 o3 i3 (Scalar.addi (Scf.iv 0#32 1#32 k.val) 24#32) 3 _ = cand _ _ _ _ _ k.val 3 _ at e3
  simp only [e0, e1, e2, e3, d0, d1, d2, d3]
  rfl
end raw

/-- What the first scratch array's store keeps of an entry. -/
theorem pay270 (v : Vec F S2048x128 .f32) (x) : k0_pay270 v x = hi (F := F) (v x) := by
  unfold k0_pay270 k0_pay267 k0_pay266
  simp only [shapeCast_self]; rfl
/-- The second's. -/
theorem pay271 (v : Vec F S2048x128 .f32) (x) : k0_pay271 v x = hi (F := F) (rest (F := F) (v x)) := by
  unfold k0_pay271 k0_pay269 k0_pay268 k0_pay267 k0_pay266
  simp only [shapeCast_self]; rfl
/-- The third's. -/
theorem pay272 (v : Vec F S2048x128 .f32) (x) : k0_pay272 v x = hi (F := F) (rest (F := F) (rest (F := F) (v x))) := by
  unfold k0_pay272 k0_pay269 k0_pay268 k0_pay267 k0_pay266
  simp only [shapeCast_self]; rfl

attribute [local irreducible] multiReduction multiReductionI shapeCast broadcastTo broadcast select cmpf cmpi absf addf addi shrui truncf sitofp extui constant Scalar.addi Scalar.muli Scf.iv ori andi View.readAt

variable (𝒱 : Variants) (c : Dev nD) (bd : Option 𝒱.V) (E : Set ℕ)
  (arg0 : Memref sig .tc .vmem S128x32 .f32) (harg0 : arg0.IsWhole) (arg1 : Memref sig .tc .vmem S32x65536 .f32) (harg1 : arg1.IsWhole)
  (arg2 : Memref sig .tc .vmem S16384x128 .f32) (harg2 : arg2.IsWhole) (arg3 : Memref sig .tc .vmem S1x1 .f32) (harg3 : arg3.IsWhole)
  (arg4 : Memref sig .tc .vmem S16384x128 .bf16) (harg4 : arg4.IsWhole) (arg5 : Memref sig .tc .vmem S16384x128 .bf16) (harg5 : arg5.IsWhole)
  (arg6 : Memref sig .tc .vmem S16384x128 .bf16) (harg6 : arg6.IsWhole)

section
variable (v1 : Vec F S128x32 .f32) (v2 : IVec S128x2048 32) (v3 : IVec S128x512 32) (v28 : IVec S128x128 32) (v29 : FVec F S128x1 .f32) (v30 : IVec S128x1 32) (v31 : FVec F S128x128 .f32) (v34 : FVec F S128x2048 .f32) (v36 : FVec F S32x2048 .f32) (cst_13 : FVec F S128x2048 .f32)
  (X1 : BufTy.Contents (Elt F) arg1.view.ty) (X4 : BufTy.Contents (Elt F) arg4.view.ty) (X5 : BufTy.Contents (Elt F) arg5.view.ty) (X6 : BufTy.Contents (Elt F) arg6.view.ty)
  (X1 : BufTy.Contents (Elt F) arg1.view.ty) (X4 : BufTy.Contents (Elt F) arg4.view.ty) (X5 : BufTy.Contents (Elt F) arg5.view.ty) (X6 : BufTy.Contents (Elt F) arg6.view.ty)
/-- What one trip of the first step's loop yields. -/
theorem trip2 (k : Fin k0_t2_loop.trips) (a : Acc F) :
    tripR_k0_t2 𝒱 c bd arg0 harg0 arg1 harg1 arg2 harg2 arg3 harg3 arg4 harg4 arg5 harg5 arg6 harg6 v1 v2 v3 v28 v29 v30 v31 v34 v36 cst_13 X1 X4 X5 X6 k a
      = trip v2 v3 v1 (arg1.view.read (Elt F) X1) (arg4.view.read (Elt F) X4) (arg5.view.read (Elt F) X5) (arg6.view.read (Elt F) X6) k.val a := by
  unfold tripR_k0_t2 trip_k0_t2
  exact tripAt_eq arg1 arg4 arg5 arg6 X1 X4 X5 X6 v2 v3 v1 (k0_off2 k) (k0_off3 k) (k0_off2_inb k) (k0_off3_inb k) ⟨k.val, lt_of_lt_of_le k.isLt k0_t2_abs.2.1⟩ (k0_off2_eq k) (k0_off3_eq k) a

/-- What the first step's loop carries before trip `k`. -/
theorem st2 (init : Acc F) (k : ℕ) (hk : k ≤ k0_t2_loop.trips) :
    st_k0_t2 𝒱 c bd arg0 harg0 arg1 harg1 arg2 harg2 arg3 harg3 arg4 harg4 arg5 harg5 arg6 harg6 v1 v2 v3 v28 v29 v30 v31 v34 v36 cst_13 X1 X4 X5 X6 init k
      = scan v2 v3 v1 (arg1.view.read (Elt F) X1) (arg4.view.read (Elt F) X4) (arg5.view.read (Elt F) X5) (arg6.view.read (Elt F) X6) init k := by
  induction k with
  | zero => rfl
  | succ k ih => exact (st_k0_t2_succ 𝒱 c bd arg0 harg0 arg1 harg1 arg2 harg2 arg3 harg3 arg4 harg4 arg5 harg5 arg6 harg6 v1 v2 v3 v28 v29 v30 v31 v34 v36 cst_13 X1 X4 X5 X6 init ⟨k, hk⟩).trans ((trip2 𝒱 c bd arg0 harg0 arg1 harg1 arg2 harg2 arg3 harg3 arg4 harg4 arg5 harg5 arg6 harg6 v1 v2 v3 v28 v29 v30 v31 v34 v36 cst_13 X1 X4 X5 X6 ⟨k, hk⟩ _).trans (congrArg (trip _ _ _ _ _ _ _ k) (ih (Nat.le_of_lt hk))))

/-- How the run goes on after the first step's loop: the arrays as they were, the eight trips' result named. -/
instance exit2 (init : Acc F) : LoopExit (loopInv_k0_t2 𝒱 c bd E arg0 harg0 arg1 harg1 arg2 harg2 arg3 harg3 arg4 harg4 arg5 harg5 arg6 harg6 v1 v2 v3 v28 v29 v30 v31 v34 v36 cst_13 X1 X4 X5 X6 init) where
  post acc := iprop((arg1.view.loc (c : Thread nD τ) ↦[arg1.view.set]{fullShare} X1) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ ⌜acc = scan v2 v3 v1 (arg1.view.read (Elt F) X1) (arg4.view.read (Elt F) X4) (arg5.view.read (Elt F) X5) (arg6.view.read (Elt F) X6) init 8⌝)
  exit acc := by
    show inv_k0_t2 (F := F) 𝒱 c bd arg0 harg0 arg1 harg1 arg2 harg2 arg3 harg3 arg4 harg4 arg5 harg5 arg6 harg6 v1 v2 v3 v28 v29 v30 v31 v34 v36 cst_13 X1 X4 X5 X6 init k0_t2_loop.trips acc ⊢ _
    unfold inv_k0_t2
    rw [st2 (init := init) (hk := Nat.le_refl _), show k0_t2_loop.trips = 8 by decide +kernel]
end

section
variable (v2 : IVec S128x2048 32) (v3 : IVec S128x512 32) (v28 : IVec S128x128 32) (v69 : FVec F S128x32 .f32) (v70 : FVec F S128x1 .f32) (v71 : IVec S128x1 32) (v72 : FVec F S128x128 .f32) (v75 : FVec F S128x2048 .f32)
  (X1 : BufTy.Contents (Elt F) arg1.view.ty) (X4 : BufTy.Contents (Elt F) arg4.view.ty) (X5 : BufTy.Contents (Elt F) arg5.view.ty) (X6 : BufTy.Contents (Elt F) arg6.view.ty)
  (X1 : BufTy.Contents (Elt F) arg1.view.ty) (X4 : BufTy.Contents (Elt F) arg4.view.ty) (X5 : BufTy.Contents (Elt F) arg5.view.ty) (X6 : BufTy.Contents (Elt F) arg6.view.ty)
/-- What one trip of the second step's loop yields. -/
theorem trip3 (k : Fin k0_t3_loop.trips) (a : Acc F) :
    tripR_k0_t3 𝒱 c bd arg0 harg0 arg1 harg1 arg2 harg2 arg3 harg3 arg4 harg4 arg5 harg5 arg6 harg6 v2 v3 v28 v69 v70 v71 v72 v75 X1 X4 X5 X6 k a
      = trip v2 v3 v69 (arg1.view.read (Elt F) X1) (arg4.view.read (Elt F) X4) (arg5.view.read (Elt F) X5) (arg6.view.read (Elt F) X6) k.val a := by
  unfold tripR_k0_t3 trip_k0_t3
  exact tripAt_eq arg1 arg4 arg5 arg6 X1 X4 X5 X6 v2 v3 v69 (k0_off4 k) (k0_off5 k) (k0_off4_inb k) (k0_off5_inb k) ⟨k.val, lt_of_lt_of_le k.isLt k0_t3_abs.2.1⟩ (k0_off4_eq k) (k0_off5_eq k) a

/-- What the second step's loop carries before trip `k`. -/
theorem st3 (init : Acc F) (k : ℕ) (hk : k ≤ k0_t3_loop.trips) :
    st_k0_t3 𝒱 c bd arg0 harg0 arg1 harg1 arg2 harg2 arg3 harg3 arg4 harg4 arg5 harg5 arg6 harg6 v2 v3 v28 v69 v70 v71 v72 v75 X1 X4 X5 X6 init k
      = scan v2 v3 v69 (arg1.view.read (Elt F) X1) (arg4.view.read (Elt F) X4) (arg5.view.read (Elt F) X5) (arg6.view.read (Elt F) X6) init k := by
  induction k with
  | zero => rfl
  | succ k ih => exact (st_k0_t3_succ 𝒱 c bd arg0 harg0 arg1 harg1 arg2 harg2 arg3 harg3 arg4 harg4 arg5 harg5 arg6 harg6 v2 v3 v28 v69 v70 v71 v72 v75 X1 X4 X5 X6 init ⟨k, hk⟩).trans ((trip3 𝒱 c bd arg0 harg0 arg1 harg1 arg2 harg2 arg3 harg3 arg4 harg4 arg5 harg5 arg6 harg6 v2 v3 v28 v69 v70 v71 v72 v75 X1 X4 X5 X6 ⟨k, hk⟩ _).trans (congrArg (trip _ _ _ _ _ _ _ k) (ih (Nat.le_of_lt hk))))

/-- How the run goes on after the second step's loop: the arrays as they were, the eight trips' result named. -/
instance exit3 (init : Acc F) : LoopExit (loopInv_k0_t3 𝒱 c bd E arg0 harg0 arg1 harg1 arg2 harg2 arg3 harg3 arg4 harg4 arg5 harg5 arg6 harg6 v2 v3 v28 v69 v70 v71 v72 v75 X1 X4 X5 X6 init) where
  post acc := iprop((arg1.view.loc (c : Thread nD τ) ↦[arg1.view.set]{fullShare} X1) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ ⌜acc = scan v2 v3 v69 (arg1.view.read (Elt F) X1) (arg4.view.read (Elt F) X4) (arg5.view.read (Elt F) X5) (arg6.view.read (Elt F) X6) init 8⌝)
  exit acc := by
    show inv_k0_t3 (F := F) 𝒱 c bd arg0 harg0 arg1 harg1 arg2 harg2 arg3 harg3 arg4 harg4 arg5 harg5 arg6 harg6 v2 v3 v28 v69 v70 v71 v72 v75 X1 X4 X5 X6 init k0_t3_loop.trips acc ⊢ _
    unfold inv_k0_t3
    rw [st3 (init := init) (hk := Nat.le_refl _), show k0_t3_loop.trips = 8 by decide +kernel]
end

section
variable (v2 : IVec S128x2048 32) (v3 : IVec S128x512 32) (v28 : IVec S128x128 32) (v110 : FVec F S128x32 .f32) (v111 : FVec F S128x1 .f32) (v112 : IVec S128x1 32) (v113 : FVec F S128x128 .f32)
  (X1 : BufTy.Contents (Elt F) arg1.view.ty) (X4 : BufTy.Contents (Elt F) arg4.view.ty) (X5 : BufTy.Contents (Elt F) arg5.view.ty) (X6 : BufTy.Contents (Elt F) arg6.view.ty)
  (X1 : BufTy.Contents (Elt F) arg1.view.ty) (X4 : BufTy.Contents (Elt F) arg4.view.ty) (X5 : BufTy.Contents (Elt F) arg5.view.ty) (X6 : BufTy.Contents (Elt F) arg6.view.ty)
/-- What one trip of the third step's loop yields. -/
theorem trip4 (k : Fin k0_t4_loop.trips) (a : Acc F) :
    tripR_k0_t4 𝒱 c bd arg0 harg0 arg1 harg1 arg2 harg2 arg3 harg3 arg4 harg4 arg5 harg5 arg6 harg6 v2 v3 v28 v110 v111 v112 v113 X1 X4 X5 X6 k a
      = trip v2 v3 v110 (arg1.view.read (Elt F) X1) (arg4.view.read (Elt F) X4) (arg5.view.read (Elt F) X5) (arg6.view.read (Elt F) X6) k.val a := by
  unfold tripR_k0_t4 trip_k0_t4
  exact tripAt_eq arg1 arg4 arg5 arg6 X1 X4 X5 X6 v2 v3 v110 (k0_off6 k) (k0_off7 k) (k0_off6_inb k) (k0_off7_inb k) ⟨k.val, lt_of_lt_of_le k.isLt k0_t4_abs.2.1⟩ (k0_off6_eq k) (k0_off7_eq k) a

/-- What the third step's loop carries before trip `k`. -/
theorem st4 (init : Acc F) (k : ℕ) (hk : k ≤ k0_t4_loop.trips) :
    st_k0_t4 𝒱 c bd arg0 harg0 arg1 harg1 arg2 harg2 arg3 harg3 arg4 harg4 arg5 harg5 arg6 harg6 v2 v3 v28 v110 v111 v112 v113 X1 X4 X5 X6 init k
      = scan v2 v3 v110 (arg1.view.read (Elt F) X1) (arg4.view.read (Elt F) X4) (arg5.view.read (Elt F) X5) (arg6.view.read (Elt F) X6) init k := by
  induction k with
  | zero => rfl
  | succ k ih => exact (st_k0_t4_succ 𝒱 c bd arg0 harg0 arg1 harg1 arg2 harg2 arg3 harg3 arg4 harg4 arg5 harg5 arg6 harg6 v2 v3 v28 v110 v111 v112 v113 X1 X4 X5 X6 init ⟨k, hk⟩).trans ((trip4 𝒱 c bd arg0 harg0 arg1 harg1 arg2 harg2 arg3 harg3 arg4 harg4 arg5 harg5 arg6 harg6 v2 v3 v28 v110 v111 v112 v113 X1 X4 X5 X6 ⟨k, hk⟩ _).trans (congrArg (trip _ _ _ _ _ _ _ k) (ih (Nat.le_of_lt hk))))

/-- How the run goes on after the third step's loop: the arrays as they were, the eight trips' result named. -/
instance exit4 (init : Acc F) : LoopExit (loopInv_k0_t4 𝒱 c bd E arg0 harg0 arg1 harg1 arg2 harg2 arg3 harg3 arg4 harg4 arg5 harg5 arg6 harg6 v2 v3 v28 v110 v111 v112 v113 X1 X4 X5 X6 init) where
  post acc := iprop((arg1.view.loc (c : Thread nD τ) ↦[arg1.view.set]{fullShare} X1) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ ⌜acc = scan v2 v3 v110 (arg1.view.read (Elt F) X1) (arg4.view.read (Elt F) X4) (arg5.view.read (Elt F) X5) (arg6.view.read (Elt F) X6) init 8⌝)
  exit acc := by
    show inv_k0_t4 (F := F) 𝒱 c bd arg0 harg0 arg1 harg1 arg2 harg2 arg3 harg3 arg4 harg4 arg5 harg5 arg6 harg6 v2 v3 v28 v110 v111 v112 v113 X1 X4 X5 X6 init k0_t4_loop.trips acc ⊢ _
    unfold inv_k0_t4
    rw [st4 (init := init) (hk := Nat.le_refl _), show k0_t4_loop.trips = 8 by decide +kernel]
end

section
variable (v2 : IVec S128x2048 32) (v3 : IVec S128x512 32) (v28 : IVec S128x128 32) (v151 : FVec F S128x32 .f32) (v152 : FVec F S128x1 .f32)
  (X1 : BufTy.Contents (Elt F) arg1.view.ty) (X4 : BufTy.Contents (Elt F) arg4.view.ty) (X5 : BufTy.Contents (Elt F) arg5.view.ty) (X6 : BufTy.Contents (Elt F) arg6.view.ty)
  (X1 : BufTy.Contents (Elt F) arg1.view.ty) (X4 : BufTy.Contents (Elt F) arg4.view.ty) (X5 : BufTy.Contents (Elt F) arg5.view.ty) (X6 : BufTy.Contents (Elt F) arg6.view.ty)
/-- What one trip of the fourth step's loop yields. -/
theorem trip5 (k : Fin k0_t5_loop.trips) (a : Acc F) :
    tripR_k0_t5 𝒱 c bd arg0 harg0 arg1 harg1 arg2 harg2 arg3 harg3 arg4 harg4 arg5 harg5 arg6 harg6 v2 v3 v28 v151 v152 X1 X4 X5 X6 k a
      = trip v2 v3 v151 (arg1.view.read (Elt F) X1) (arg4.view.read (Elt F) X4) (arg5.view.read (Elt F) X5) (arg6.view.read (Elt F) X6) k.val a := by
  unfold tripR_k0_t5 trip_k0_t5
  exact tripAt_eq arg1 arg4 arg5 arg6 X1 X4 X5 X6 v2 v3 v151 (k0_off8 k) (k0_off9 k) (k0_off8_inb k) (k0_off9_inb k) ⟨k.val, lt_of_lt_of_le k.isLt k0_t5_abs.2.1⟩ (k0_off8_eq k) (k0_off9_eq k) a

/-- What the fourth step's loop carries before trip `k`. -/
theorem st5 (init : Acc F) (k : ℕ) (hk : k ≤ k0_t5_loop.trips) :
    st_k0_t5 𝒱 c bd arg0 harg0 arg1 harg1 arg2 harg2 arg3 harg3 arg4 harg4 arg5 harg5 arg6 harg6 v2 v3 v28 v151 v152 X1 X4 X5 X6 init k
      = scan v2 v3 v151 (arg1.view.read (Elt F) X1) (arg4.view.read (Elt F) X4) (arg5.view.read (Elt F) X5) (arg6.view.read (Elt F) X6) init k := by
  induction k with
  | zero => rfl
  | succ k ih => exact (st_k0_t5_succ 𝒱 c bd arg0 harg0 arg1 harg1 arg2 harg2 arg3 harg3 arg4 harg4 arg5 harg5 arg6 harg6 v2 v3 v28 v151 v152 X1 X4 X5 X6 init ⟨k, hk⟩).trans ((trip5 𝒱 c bd arg0 harg0 arg1 harg1 arg2 harg2 arg3 harg3 arg4 harg4 arg5 harg5 arg6 harg6 v2 v3 v28 v151 v152 X1 X4 X5 X6 ⟨k, hk⟩ _).trans (congrArg (trip _ _ _ _ _ _ _ k) (ih (Nat.le_of_lt hk))))

/-- How the run goes on after the fourth step's loop: the arrays as they were, the eight trips' result named. -/
instance exit5 (init : Acc F) : LoopExit (loopInv_k0_t5 𝒱 c bd E arg0 harg0 arg1 harg1 arg2 harg2 arg3 harg3 arg4 harg4 arg5 harg5 arg6 harg6 v2 v3 v28 v151 v152 X1 X4 X5 X6 init) where
  post acc := iprop((arg1.view.loc (c : Thread nD τ) ↦[arg1.view.set]{fullShare} X1) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ ⌜acc = scan v2 v3 v151 (arg1.view.read (Elt F) X1) (arg4.view.read (Elt F) X4) (arg5.view.read (Elt F) X5) (arg6.view.read (Elt F) X6) init 8⌝)
  exit acc := by
    show inv_k0_t5 (F := F) 𝒱 c bd arg0 harg0 arg1 harg1 arg2 harg2 arg3 harg3 arg4 harg4 arg5 harg5 arg6 harg6 v2 v3 v28 v151 v152 X1 X4 X5 X6 init k0_t5_loop.trips acc ⊢ _
    unfold inv_k0_t5
    rw [st5 (init := init) (hk := Nat.le_refl _), show k0_t5_loop.trips = 8 by decide +kernel]
end

section
variable (v2 : IVec S128x2048 32) (v3 : IVec S128x512 32) (v28 : IVec S128x128 32) (v151 : FVec F S128x32 .f32) (v181 : FVec F S128x32 .f32) (v189 : FVec F S128x1 .f32)
  (X1 : BufTy.Contents (Elt F) arg1.view.ty) (X4 : BufTy.Contents (Elt F) arg4.view.ty) (X5 : BufTy.Contents (Elt F) arg5.view.ty) (X6 : BufTy.Contents (Elt F) arg6.view.ty)
  (X1 : BufTy.Contents (Elt F) arg1.view.ty) (X4 : BufTy.Contents (Elt F) arg4.view.ty) (X5 : BufTy.Contents (Elt F) arg5.view.ty) (X6 : BufTy.Contents (Elt F) arg6.view.ty)
/-- What one trip of the fifth step's loop yields. -/
theorem trip6 (k : Fin k0_t6_loop.trips) (a : Acc F) :
    tripR_k0_t6 𝒱 c bd arg0 harg0 arg1 harg1 arg2 harg2 arg3 harg3 arg4 harg4 arg5 harg5 arg6 harg6 v2 v3 v28 v151 v181 v189 X1 X4 X5 X6 k a
      = trip v2 v3 (k0_pay327 v151 v181 v189) (arg1.view.read (Elt F) X1) (arg4.view.read (Elt F) X4) (arg5.view.read (Elt F) X5) (arg6.view.read (Elt F) X6) k.val a := by
  unfold tripR_k0_t6 trip_k0_t6
  exact tripAt_eq arg1 arg4 arg5 arg6 X1 X4 X5 X6 v2 v3 (k0_pay327 v151 v181 v189) (k0_off10 k) (k0_off11 k) (k0_off10_inb k) (k0_off11_inb k) ⟨k.val, lt_of_lt_of_le k.isLt k0_t6_abs.2.1⟩ (k0_off10_eq k) (k0_off11_eq k) a

/-- What the fifth step's loop carries before trip `k`. -/
theorem st6 (init : Acc F) (k : ℕ) (hk : k ≤ k0_t6_loop.trips) :
    st_k0_t6 𝒱 c bd arg0 harg0 arg1 harg1 arg2 harg2 arg3 harg3 arg4 harg4 arg5 harg5 arg6 harg6 v2 v3 v28 v151 v181 v189 X1 X4 X5 X6 init k
      = scan v2 v3 (k0_pay327 v151 v181 v189) (arg1.view.read (Elt F) X1) (arg4.view.read (Elt F) X4) (arg5.view.read (Elt F) X5) (arg6.view.read (Elt F) X6) init k := by
  induction k with
  | zero => rfl
  | succ k ih => exact (st_k0_t6_succ 𝒱 c bd arg0 harg0 arg1 harg1 arg2 harg2 arg3 harg3 arg4 harg4 arg5 harg5 arg6 harg6 v2 v3 v28 v151 v181 v189 X1 X4 X5 X6 init ⟨k, hk⟩).trans ((trip6 𝒱 c bd arg0 harg0 arg1 harg1 arg2 harg2 arg3 harg3 arg4 harg4 arg5 harg5 arg6 harg6 v2 v3 v28 v151 v181 v189 X1 X4 X5 X6 ⟨k, hk⟩ _).trans (congrArg (trip _ _ _ _ _ _ _ k) (ih (Nat.le_of_lt hk))))

/-- How the run goes on after the fifth step's loop: the arrays as they were, the eight trips' result named. -/
instance exit6 (init : Acc F) : LoopExit (loopInv_k0_t6 𝒱 c bd E arg0 harg0 arg1 harg1 arg2 harg2 arg3 harg3 arg4 harg4 arg5 harg5 arg6 harg6 v2 v3 v28 v151 v181 v189 X1 X4 X5 X6 init) where
  post acc := iprop((arg1.view.loc (c : Thread nD τ) ↦[arg1.view.set]{fullShare} X1) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ ⌜acc = scan v2 v3 (k0_pay327 v151 v181 v189) (arg1.view.read (Elt F) X1) (arg4.view.read (Elt F) X4) (arg5.view.read (Elt F) X5) (arg6.view.read (Elt F) X6) init 8⌝)
  exit acc := by
    show inv_k0_t6 (F := F) 𝒱 c bd arg0 harg0 arg1 harg1 arg2 harg2 arg3 harg3 arg4 harg4 arg5 harg5 arg6 harg6 v2 v3 v28 v151 v181 v189 X1 X4 X5 X6 init k0_t6_loop.trips acc ⊢ _
    unfold inv_k0_t6
    rw [st6 (init := init) (hk := Nat.le_refl _), show k0_t6_loop.trips = 8 by decide +kernel]
end

section
variable (v2 : IVec S128x2048 32) (v3 : IVec S128x512 32) (v28 : IVec S128x128 32) (v192 : FVec F S128x32 .f32) (v209_0 : FVec F S128x1 .f32) (v222 : FVec F S128x32 .f32) (v225 : FVec F S128x1 .f32) (v226 : FVec F S128x1 .f32)
  (X1 : BufTy.Contents (Elt F) arg1.view.ty) (X4 : BufTy.Contents (Elt F) arg4.view.ty) (X5 : BufTy.Contents (Elt F) arg5.view.ty) (X6 : BufTy.Contents (Elt F) arg6.view.ty)
  (X1 : BufTy.Contents (Elt F) arg1.view.ty) (X4 : BufTy.Contents (Elt F) arg4.view.ty) (X5 : BufTy.Contents (Elt F) arg5.view.ty) (X6 : BufTy.Contents (Elt F) arg6.view.ty)
/-- What one trip of the sixth step's loop yields. -/
theorem trip7 (k : Fin k0_t7_loop.trips) (a : Acc F) :
    tripR_k0_t7 𝒱 c bd arg0 harg0 arg1 harg1 arg2 harg2 arg3 harg3 arg4 harg4 arg5 harg5 arg6 harg6 v2 v3 v28 v192 v209_0 v222 v225 v226 X1 X4 X5 X6 k a
      = trip v2 v3 (k0_pay342 v192 v209_0 v222 v225 v226) (arg1.view.read (Elt F) X1) (arg4.view.read (Elt F) X4) (arg5.view.read (Elt F) X5) (arg6.view.read (Elt F) X6) k.val a := by
  unfold tripR_k0_t7 trip_k0_t7
  exact tripAt_eq arg1 arg4 arg5 arg6 X1 X4 X5 X6 v2 v3 (k0_pay342 v192 v209_0 v222 v225 v226) (k0_off12 k) (k0_off13 k) (k0_off12_inb k) (k0_off13_inb k) ⟨k.val, lt_of_lt_of_le k.isLt k0_t7_abs.2.1⟩ (k0_off12_eq k) (k0_off13_eq k) a

/-- What the sixth step's loop carries before trip `k`. -/
theorem st7 (init : Acc F) (k : ℕ) (hk : k ≤ k0_t7_loop.trips) :
    st_k0_t7 𝒱 c bd arg0 harg0 arg1 harg1 arg2 harg2 arg3 harg3 arg4 harg4 arg5 harg5 arg6 harg6 v2 v3 v28 v192 v209_0 v222 v225 v226 X1 X4 X5 X6 init k
      = scan v2 v3 (k0_pay342 v192 v209_0 v222 v225 v226) (arg1.view.read (Elt F) X1) (arg4.view.read (Elt F) X4) (arg5.view.read (Elt F) X5) (arg6.view.read (Elt F) X6) init k := by
  induction k with
  | zero => rfl
  | succ k ih => exact (st_k0_t7_succ 𝒱 c bd arg0 harg0 arg1 harg1 arg2 harg2 arg3 harg3 arg4 harg4 arg5 harg5 arg6 harg6 v2 v3 v28 v192 v209_0 v222 v225 v226 X1 X4 X5 X6 init ⟨k, hk⟩).trans ((trip7 𝒱 c bd arg0 harg0 arg1 harg1 arg2 harg2 arg3 harg3 arg4 harg4 arg5 harg5 arg6 harg6 v2 v3 v28 v192 v209_0 v222 v225 v226 X1 X4 X5 X6 ⟨k, hk⟩ _).trans (congrArg (trip _ _ _ _ _ _ _ k) (ih (Nat.le_of_lt hk))))

/-- How the run goes on after the sixth step's loop: the arrays as they were, the eight trips' result named. -/
instance exit7 (init : Acc F) : LoopExit (loopInv_k0_t7 𝒱 c bd E arg0 harg0 arg1 harg1 arg2 harg2 arg3 harg3 arg4 harg4 arg5 harg5 arg6 harg6 v2 v3 v28 v192 v209_0 v222 v225 v226 X1 X4 X5 X6 init) where
  post acc := iprop((arg1.view.loc (c : Thread nD τ) ↦[arg1.view.set]{fullShare} X1) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ ⌜acc = scan v2 v3 (k0_pay342 v192 v209_0 v222 v225 v226) (arg1.view.read (Elt F) X1) (arg4.view.read (Elt F) X4) (arg5.view.read (Elt F) X5) (arg6.view.read (Elt F) X6) init 8⌝)
  exit acc := by
    show inv_k0_t7 (F := F) 𝒱 c bd arg0 harg0 arg1 harg1 arg2 harg2 arg3 harg3 arg4 harg4 arg5 harg5 arg6 harg6 v2 v3 v28 v192 v209_0 v222 v225 v226 X1 X4 X5 X6 init k0_t7_loop.trips acc ⊢ _
    unfold inv_k0_t7
    rw [st7 (init := init) (hk := Nat.le_refl _), show k0_t7_loop.trips = 8 by decide +kernel]
end

section
variable (v2 : IVec S128x2048 32) (v3 : IVec S128x512 32) (v28 : IVec S128x128 32) (v233 : FVec F S128x32 .f32) (v250_0 : FVec F S128x1 .f32) (v263 : FVec F S128x32 .f32) (v264 : FVec F S128x32 .f32)
  (X1 : BufTy.Contents (Elt F) arg1.view.ty) (X4 : BufTy.Contents (Elt F) arg4.view.ty) (X5 : BufTy.Contents (Elt F) arg5.view.ty) (X6 : BufTy.Contents (Elt F) arg6.view.ty)
  (X1 : BufTy.Contents (Elt F) arg1.view.ty) (X4 : BufTy.Contents (Elt F) arg4.view.ty) (X5 : BufTy.Contents (Elt F) arg5.view.ty) (X6 : BufTy.Contents (Elt F) arg6.view.ty)
/-- What one trip of the seventh step's loop yields. -/
theorem trip8 (k : Fin k0_t8_loop.trips) (a : Acc F) :
    tripR_k0_t8 𝒱 c bd arg0 harg0 arg1 harg1 arg2 harg2 arg3 harg3 arg4 harg4 arg5 harg5 arg6 harg6 v2 v3 v28 v233 v250_0 v263 v264 X1 X4 X5 X6 k a
      = trip v2 v3 (k0_pay356 v233 v250_0 v263 v264) (arg1.view.read (Elt F) X1) (arg4.view.read (Elt F) X4) (arg5.view.read (Elt F) X5) (arg6.view.read (Elt F) X6) k.val a := by
  unfold tripR_k0_t8 trip_k0_t8
  exact tripAt_eq arg1 arg4 arg5 arg6 X1 X4 X5 X6 v2 v3 (k0_pay356 v233 v250_0 v263 v264) (k0_off14 k) (k0_off15 k) (k0_off14_inb k) (k0_off15_inb k) ⟨k.val, lt_of_lt_of_le k.isLt k0_t8_abs.2.1⟩ (k0_off14_eq k) (k0_off15_eq k) a

/-- What the seventh step's loop carries before trip `k`. -/
theorem st8 (init : Acc F) (k : ℕ) (hk : k ≤ k0_t8_loop.trips) :
    st_k0_t8 𝒱 c bd arg0 harg0 arg1 harg1 arg2 harg2 arg3 harg3 arg4 harg4 arg5 harg5 arg6 harg6 v2 v3 v28 v233 v250_0 v263 v264 X1 X4 X5 X6 init k
      = scan v2 v3 (k0_pay356 v233 v250_0 v263 v264) (arg1.view.read (Elt F) X1) (arg4.view.read (Elt F) X4) (arg5.view.read (Elt F) X5) (arg6.view.read (Elt F) X6) init k := by
  induction k with
  | zero => rfl
  | succ k ih => exact (st_k0_t8_succ 𝒱 c bd arg0 harg0 arg1 harg1 arg2 harg2 arg3 harg3 arg4 harg4 arg5 harg5 arg6 harg6 v2 v3 v28 v233 v250_0 v263 v264 X1 X4 X5 X6 init ⟨k, hk⟩).trans ((trip8 𝒱 c bd arg0 harg0 arg1 harg1 arg2 harg2 arg3 harg3 arg4 harg4 arg5 harg5 arg6 harg6 v2 v3 v28 v233 v250_0 v263 v264 X1 X4 X5 X6 ⟨k, hk⟩ _).trans (congrArg (trip _ _ _ _ _ _ _ k) (ih (Nat.le_of_lt hk))))

/-- How the run goes on after the seventh step's loop: the arrays as they were, the eight trips' result named. -/
instance exit8 (init : Acc F) : LoopExit (loopInv_k0_t8 𝒱 c bd E arg0 harg0 arg1 harg1 arg2 harg2 arg3 harg3 arg4 harg4 arg5 harg5 arg6 harg6 v2 v3 v28 v233 v250_0 v263 v264 X1 X4 X5 X6 init) where
  post acc := iprop((arg1.view.loc (c : Thread nD τ) ↦[arg1.view.set]{fullShare} X1) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ ⌜acc = scan v2 v3 (k0_pay356 v233 v250_0 v263 v264) (arg1.view.read (Elt F) X1) (arg4.view.read (Elt F) X4) (arg5.view.read (Elt F) X5) (arg6.view.read (Elt F) X6) init 8⌝)
  exit acc := by
    show inv_k0_t8 (F := F) 𝒱 c bd arg0 harg0 arg1 harg1 arg2 harg2 arg3 harg3 arg4 harg4 arg5 harg5 arg6 harg6 v2 v3 v28 v233 v250_0 v263 v264 X1 X4 X5 X6 init k0_t8_loop.trips acc ⊢ _
    unfold inv_k0_t8
    rw [st8 (init := init) (hk := Nat.le_refl _), show k0_t8_loop.trips = 8 by decide +kernel]
end

section
variable (v2 : IVec S128x2048 32) (v3 : IVec S128x512 32) (v28 : IVec S128x128 32) (v274 : FVec F S128x32 .f32) (v291_0 : FVec F S128x1 .f32) (v297 : FVec F S128x128 .f32) (v300 : FVec F S128x32 .f32)
  (X1 : BufTy.Contents (Elt F) arg1.view.ty) (X4 : BufTy.Contents (Elt F) arg4.view.ty) (X5 : BufTy.Contents (Elt F) arg5.view.ty) (X6 : BufTy.Contents (Elt F) arg6.view.ty)
  (X1 : BufTy.Contents (Elt F) arg1.view.ty) (X4 : BufTy.Contents (Elt F) arg4.view.ty) (X5 : BufTy.Contents (Elt F) arg5.view.ty) (X6 : BufTy.Contents (Elt F) arg6.view.ty)
/-- What one trip of the eighth step's loop yields. -/
theorem trip9 (k : Fin k0_t9_loop.trips) (a : Acc F) :
    tripR_k0_t9 𝒱 c bd arg0 harg0 arg1 harg1 arg2 harg2 arg3 harg3 arg4 harg4 arg5 harg5 arg6 harg6 v2 v3 v28 v274 v291_0 v297 v300 X1 X4 X5 X6 k a
      = trip v2 v3 (k0_pay371 v274 v291_0 v297 v300) (arg1.view.read (Elt F) X1) (arg4.view.read (Elt F) X4) (arg5.view.read (Elt F) X5) (arg6.view.read (Elt F) X6) k.val a := by
  unfold tripR_k0_t9 trip_k0_t9
  exact tripAt_eq arg1 arg4 arg5 arg6 X1 X4 X5 X6 v2 v3 (k0_pay371 v274 v291_0 v297 v300) (k0_off16 k) (k0_off17 k) (k0_off16_inb k) (k0_off17_inb k) ⟨k.val, lt_of_lt_of_le k.isLt k0_t9_abs.2.1⟩ (k0_off16_eq k) (k0_off17_eq k) a

/-- What the eighth step's loop carries before trip `k`. -/
theorem st9 (init : Acc F) (k : ℕ) (hk : k ≤ k0_t9_loop.trips) :
    st_k0_t9 𝒱 c bd arg0 harg0 arg1 harg1 arg2 harg2 arg3 harg3 arg4 harg4 arg5 harg5 arg6 harg6 v2 v3 v28 v274 v291_0 v297 v300 X1 X4 X5 X6 init k
      = scan v2 v3 (k0_pay371 v274 v291_0 v297 v300) (arg1.view.read (Elt F) X1) (arg4.view.read (Elt F) X4) (arg5.view.read (Elt F) X5) (arg6.view.read (Elt F) X6) init k := by
  induction k with
  | zero => rfl
  | succ k ih => exact (st_k0_t9_succ 𝒱 c bd arg0 harg0 arg1 harg1 arg2 harg2 arg3 harg3 arg4 harg4 arg5 harg5 arg6 harg6 v2 v3 v28 v274 v291_0 v297 v300 X1 X4 X5 X6 init ⟨k, hk⟩).trans ((trip9 𝒱 c bd arg0 harg0 arg1 harg1 arg2 harg2 arg3 harg3 arg4 harg4 arg5 harg5 arg6 harg6 v2 v3 v28 v274 v291_0 v297 v300 X1 X4 X5 X6 ⟨k, hk⟩ _).trans (congrArg (trip _ _ _ _ _ _ _ k) (ih (Nat.le_of_lt hk))))

/-- How the run goes on after the eighth step's loop: the arrays as they were, the eight trips' result named. -/
instance exit9 (init : Acc F) : LoopExit (loopInv_k0_t9 𝒱 c bd E arg0 harg0 arg1 harg1 arg2 harg2 arg3 harg3 arg4 harg4 arg5 harg5 arg6 harg6 v2 v3 v28 v274 v291_0 v297 v300 X1 X4 X5 X6 init) where
  post acc := iprop((arg1.view.loc (c : Thread nD τ) ↦[arg1.view.set]{fullShare} X1) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ ⌜acc = scan v2 v3 (k0_pay371 v274 v291_0 v297 v300) (arg1.view.read (Elt F) X1) (arg4.view.read (Elt F) X4) (arg5.view.read (Elt F) X5) (arg6.view.read (Elt F) X6) init 8⌝)
  exit acc := by
    show inv_k0_t9 (F := F) 𝒱 c bd arg0 harg0 arg1 harg1 arg2 harg2 arg3 harg3 arg4 harg4 arg5 harg5 arg6 harg6 v2 v3 v28 v274 v291_0 v297 v300 X1 X4 X5 X6 init k0_t9_loop.trips acc ⊢ _
    unfold inv_k0_t9
    rw [st9 (init := init) (hk := Nat.le_refl _), show k0_t9_loop.trips = 8 by decide +kernel]
end

section
variable (X : BufTy.Contents (Elt F) arg2.view.ty) (G4 : BufTy.Contents (Elt F) arg4.view.ty) (G5 : BufTy.Contents (Elt F) arg5.view.ty) (G6 : BufTy.Contents (Elt F) arg6.view.ty)
/-- How the run goes on after the splitting loop: the three scratch arrays hold the dictionary's three parts, whatever they held before. -/
instance exit1 : LoopExit (loopInv_k0_t1 𝒱 c bd E arg0 harg0 arg1 harg1 arg2 harg2 arg3 harg3 arg4 harg4 arg5 harg5 arg6 harg6 X G4 G5 G6) where
  post _ := iprop((arg2.view.loc (c : Thread nD τ) ↦[arg2.view.set]{fullShare} X)
    ∗ (arg4.view.loc (c : Thread nD τ) ↦[arg4.view.set]{fullShare} harg4.unread (high (arg2.view.read (Elt F) X)))
    ∗ (arg5.view.loc (c : Thread nD τ) ↦[arg5.view.set]{fullShare} harg5.unread (mid (arg2.view.read (Elt F) X)))
    ∗ (arg6.view.loc (c : Thread nD τ) ↦[arg6.view.set]{fullShare} harg6.unread (low (arg2.view.read (Elt F) X))))
  exit acc := by
    show inv_k0_t1 (F := F) 𝒱 c bd arg0 harg0 arg1 harg1 arg2 harg2 arg3 harg3 arg4 harg4 arg5 harg5 arg6 harg6 X G4 G5 G6 k0_t1_loop.trips acc ⊢ _
    unfold inv_k0_t1
    rw [pb_eq (hk := Nat.le_refl _)]
    have e4 := harg4.eq_unread (read_pcs arg2 X G4 k0_pay270 (hi (F := F)) pay270)
    have e5 := harg5.eq_unread (read_pcs arg2 X G5 k0_pay271 (fun v => hi (F := F) (rest (F := F) v)) pay271)
    have e6 := harg6.eq_unread (read_pcs arg2 X G6 k0_pay272 (fun v => hi (F := F) (rest (F := F) (rest (F := F) v))) pay272)
    iintro ⟨H2, ⟨%f4, H4, %h4⟩, ⟨%f5, H5, %h5⟩, ⟨%f6, H6, %h6⟩⟩
    obtain rfl := h4.trans e4
    obtain rfl := h5.trans e5
    obtain rfl := h6.trans e6
    isplitl [H2]; · iexact H2
    isplitl [H4]; · iexact H4
    isplitl [H5]; · iexact H5
    iexact H6
end

end Cert.KernelIdeal.Pursuit
-- ==== Proof.K.Run.lean ====
module
public import proofs.«01_k».proof.Proof.K.Exit
@[expose] public section
set_option maxRecDepth 16384
noncomputable section
namespace Cert.KernelIdeal.Pursuit
open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Rounds

local notation "𝕄" => MT nD τ sig Unit (Elt F) ℕ (UR sig nD τ) ℕ

attribute [local irreducible] scan trip

set_option maxHeartbeats 4000000 in
/-- The kernel's body, run once over whole buffers: the inputs stay, the result's buffer gets the store the run finds,
    the three scratch arrays end at some contents (they hold the dictionary's three parts, whatever was in them). -/
def body_run (c : Dev nD) (arg0 : Memref sig .tc .vmem S128x32 .f32) (harg0 : arg0.IsWhole) (arg1 : Memref sig .tc .vmem S32x65536 .f32) (harg1 : arg1.IsWhole) (arg2 : Memref sig .tc .vmem S16384x128 .f32) (harg2 : arg2.IsWhole) (arg3 : Memref sig .tc .vmem S1x1 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole)
    (x0 : Vec F S128x32 .f32) (x1 : Vec F S32x65536 .f32) (x2 : Vec F S16384x128 .f32) :
    { L3 : List (View.Piece (Elt F) S1x1 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg0 fullShare x0 ∗ owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0__mp_loss_body arg0 harg0 arg1 harg1 arg2 harg2 arg3 harg3 arg4 harg4 arg5 harg5 arg6 harg6) K } := by
  refine ⟨?_, fun E K => ?run⟩
  case run =>
    simp only [cc0__mp_loss_body_eq_skeleton]; unfold cc0__mp_loss_body_skel
    simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg0.eq_unread hf0; obtain rfl := harg1.eq_unread hf1; obtain rfl := harg2.eq_unread hf2
    sl_exec
    sl_step
    iapply Hk
    isplitl [H0]
    · iexists _; isplitr; swap
      · iexact H0
      · ipureintro; exact harg0.read_unread _
    isplitl [H1]
    · iexists _; isplitr; swap
      · iexact H1
      · ipureintro; exact harg1.read_unread _
    isplitl [HL0]
    · iexists _; isplitr; swap
      · iexact HL0
      · ipureintro; exact harg2.read_unread _
    isplitl [H3]
    · iexists _; iexact H3
    isplitl [HL1]
    · iexists _, _; isplitr; swap
      · iexact HL1
      · ipureintro; rfl
    isplitl [HL2]
    · iexists _, _; isplitr; swap
      · iexact HL2
      · ipureintro; rfl
    iexists _, _; isplitr; swap
    · iexact HL3
    · ipureintro; rfl
end Cert.KernelIdeal.Pursuit
-- ==== Proof.K.Frame.lean ====
module
public import proofs.«01_k».proof.Proof.K.Run
public import Idealize.ShloMosaic.Lib.Claim
public import Idealize.ShloMosaic.Lib.Pipeline.Value
@[expose] public section
set_option maxRecDepth 16384
noncomputable section
namespace Cert.KernelIdeal.Pursuit
open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- What the one grid point leaves in the result's staging buffer. -/
def result (c : Dev nD) (t : Fin cfg0.N) : List (View.Piece (Elt F) S1x1 .f32) :=
  (body_run c (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t)).1

/-- That store covers the result's one element. -/
theorem result_cover (c : Dev nD) (t : Fin cfg0.N) (y : S1x1.Idx) : ∃ pc ∈ result m c t, y ∈ pc.1.set := by
  unfold result body_run
  refine ⟨_, List.mem_cons_self, ?_⟩
  rw [Rect.mem_set_unit]
  intro a
  fin_cases a
  · exact ⟨Nat.zero_le _, (y 0).isLt⟩
  · exact ⟨Nat.zero_le _, (y 1).isLt⟩

/-- The result's staging buffer after the point, read. -/
def resultAt (c : Dev nD) (t : Fin cfg0.N) : Vec F S1x1 .f32 :=
  VO0_3.read (Elt F) (VO0_3.writes (Elt F) VO0_3.junk (result m c t))

/-- The pipeline's data: the inputs' buffers keep their blocks, the result's ends at `resultAt`. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => resultAt m c t
  Φ _ := Pipeline.ΦA spec0 c
  q _ := fullShare
  owed _ := 0

/-- The arrays the pipeline starts from. -/
theorem dat_A (c : Dev nD) (w : Fin cfg0.W) : (dat m 0 c).A w = V m c (Pipeline.arrRef spec0 w) := by
  dsimp only [dat]

/-- What the body leaves in each window's buffer. -/
theorem dat_after0 (c : Dev nD) (t : Fin cfg0.N) : (dat m 0 c).after 0 t = iblk m c 0 t := by dsimp only [dat]
/-- The second input's. -/
theorem dat_after1 (c : Dev nD) (t : Fin cfg0.N) : (dat m 0 c).after 1 t = iblk m c 1 t := by dsimp only [dat]
/-- The third input's. -/
theorem dat_after2 (c : Dev nD) (t : Fin cfg0.N) : (dat m 0 c).after 2 t = iblk m c 2 t := by dsimp only [dat]
/-- The result's. -/
theorem dat_after3 (c : Dev nD) (t : Fin cfg0.N) : (dat m 0 c).after 3 t = resultAt m c t := by dsimp only [dat]

/-- The first input's buffer holds its block when the body starts. -/
theorem dat_before0 (c : Dev nD) (t : Fin cfg0.N) (d) : (dat m 0 c).before 0 t d = iblk m c 0 t :=
  before0_0_of m (dat m 0 c) (dat_A m c 0) (dat_after0 m c) t d
/-- The second input's. -/
theorem dat_before1 (c : Dev nD) (t : Fin cfg0.N) (d) : (dat m 0 c).before 1 t d = iblk m c 1 t :=
  before0_1_of m (dat m 0 c) (dat_A m c 1) (dat_after1 m c) t d
/-- The third input's. -/
theorem dat_before2 (c : Dev nD) (t : Fin cfg0.N) (d) : (dat m 0 c).before 2 t d = iblk m c 2 t :=
  before0_2_of m (dat m 0 c) (dat_A m c 2) (dat_after2 m c) t d

/-- The body at the grid point: from the inputs' blocks to the result's store. -/
theorem body_sound (c : Dev nD) (t : Fin cfg0.N) :
    iprop((dat m 0 c).Φ t.castSucc ∗ (dat m 0 c).owesAt () t.castSucc
      ∗ (∃ d, owns (c : Thread nD τ) (ms0_0 t) fullShare ((dat m 0 c).before 0 t d))
      ∗ (∃ d, owns (c : Thread nD τ) (ms0_1 t) fullShare ((dat m 0 c).before 1 t d))
      ∗ (∃ d, owns (c : Thread nD τ) (ms0_2 t) fullShare ((dat m 0 c).before 2 t d))
      ∗ (∃ d, owns (c : Thread nD τ) (ms0_3 t) fullShare ((dat m 0 c).before 3 t d)))
    ⊢ wp frame (wpE (defs₀ (F := F)) Variants.none c none) Set.univ (bodyAt0 t) (fun _ =>
      iprop((dat m 0 c).Φ t.succ ∗ (dat m 0 c).owesAt () t.succ
        ∗ owns (c : Thread nD τ) (ms0_0 t) fullShare ((dat m 0 c).after 0 t)
        ∗ owns (c : Thread nD τ) (ms0_1 t) fullShare ((dat m 0 c).after 1 t)
        ∗ owns (c : Thread nD τ) (ms0_2 t) fullShare ((dat m 0 c).after 2 t)
        ∗ owns (c : Thread nD τ) (ms0_3 t) fullShare ((dat m 0 c).after 3 t))) := by
  unfold bodyAt0
  simp only [dat_before0, dat_before1, dat_before2]
  rw [show (dat m 0 c).Φ t.succ = (dat m 0 c).Φ t.castSucc from rfl,
    show (dat m 0 c).owesAt () t.succ = (dat m 0 c).owesAt () t.castSucc from rfl,
    dat_after0, dat_after1, dat_after2, dat_after3]
  rw [show (dat m 0 c).Φ t.castSucc = Pipeline.ΦA spec0 c from rfl, PhiA0_eq]
  unfold resultAt
  iintro ⟨⟨⟨S0, S1, S2⟩, Hg⟩, Ho, ⟨%d0, H0⟩, ⟨%d1, H1⟩, ⟨%d2, H2⟩, ⟨%d3, H3⟩⟩
  iapply ((body_run c _ _ _ _ _ _ _ (hs0_3 t) _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  iintro ⟨H0, H1, H2, ⟨%e3, H3⟩, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (result_cover m c t)

/-- The body table's row at a point is the body at that point's buffers. -/
theorem row_eq (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dat m 0 c) (defs₀ (F := F)) Variants.none () Set.univ := fun t => by
  rw [bigSep_W0, bigSep_W0, row_eq]
  exact triple_restated (body_sound m c t) rfl .rfl fun _ => .rfl

set_option backward.isDefEq.respectTransparency.types false in
/-- The whole program's run: the pipeline's arrays as its data say, everything else as it was, all counters at zero. -/
theorem run_main0 : θ_run defs (onTc (τ := τ) (main (F := F))) (s₀ m ρ) (fun r => (Pipeline.FramePost cfgs (dat m) 0 (V m)) r ∧ r.2.sem = fun _ => 0) :=
  Pipeline.θ_run_frame (Q' := _) cfgs (dat m) (0 : Fin 1) launch0 defs₀ Variants.none m ρ main
    (hbody := fun c => (obligation m c).loose) (hshare := fun c => (dat m 0 c).share_full fun _ => rfl)
    (howed := fun _ _ => rfl) (V := V m) (hmain := hmain m Variants.none) (hA := dat_A m) (hΦ := fun _ _ => rfl)

/-- The arguments are unchanged by the run, and all counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dat m) (dat_A m) ((θ_run defs _ _).mono (fun _ h => h.1) (run_main0 m ρ)))
    ((θ_run defs _ _).mono (fun _ h => h.2) (run_main0 m ρ))

/-- The one grid point. -/
abbrev pt : Fin cfg0.N := ⟨0, by decide⟩

/-- After the run the result array is what the pipeline's data say it ends at. -/
theorem run_result : θ_run defs (onTc (τ := τ) (main (F := F))) ⟨m, fun _ => 0, ρ⟩ fun r => ∀ c : Dev nD,
      r.2.mem ((c : Thread nD τ).loc main_v2) = (dat m 0 c).arrAt 3 cfg0.N :=
  (θ_run defs _ _).mono (fun r h c => (h.1 c).1 3) (run_main0 m ρ)

/-- The result array's one element is its one index's. -/
theorem idx_one (a b : S1x1.Idx) : a = b := funext fun d => Fin.ext (by
  have h1 : ∀ x : S1x1.Idx, (x d).val = 0 := fun x => by
    fin_cases d
    · have h2 : (x 0).val < 1 := (x 0).isLt
      show (x 0).val = 0; omega
    · have h2 : (x 1).val < 1 := (x 1).isLt
      show (x 1).val = 0; omega
  rw [h1 a, h1 b])

/-- An array of one element that reads, through the grid point's block, as `R` cut to the block, is `R`. -/
theorem one_block (A R : Vec F S1x1 .f32) (j : ((cfg0.win 3).xblock (cfg0.grid.coords pt)).Idx)
    (h : ((cfg0.win 3).blk pt).view.read (Elt F) A = (cfg0.win 3).cut (grid0.coords pt) R) : A = R := by
  funext i
  exact (congrArg A (idx_one _ _)).trans ((congrFun h j).trans (congrArg R (idx_one _ _)))

/-- Which is what the one grid point stored. -/
theorem arr_result (c : Dev nD) : ((dat m 0 c).arrAt 3 cfg0.N : Vec F S1x1 .f32) = resultAt m c pt := by
  have hd : ∀ t t' : Fin cfg0.N, (cfg0.win 3).flush t = true → (cfg0.win 3).flush t' = true → t ≠ t' →
      Disjoint ((cfg0.win 3).blk t).view.set ((cfg0.win 3).blk t').view.set :=
    fun t t' _ _ hne => absurd (Fin.ext (by have h : cfg0.N = 1 := by decide
                                            have := t.isLt; have := t'.isLt; omega)) hne
  have h := (dat m 0 c).read_blk_arrAt_eq_flushed 3 hd cfg0.N pt pt.isLt (by decide)
  have h2 : (dat m 0 c).flushed 3 pt = (cfg0.win 3).cut (grid0.coords pt) (resultAt m c pt) := by
    show (cfg0.win 3).cut (grid0.coords pt) ((dat m 0 c).after 3 pt) = _
    rw [dat_after3]
  exact one_block _ _ (fun a => ⟨0, by fin_cases a <;> decide⟩) (h.trans h2)

end Cert.KernelIdeal.Pursuit
-- ==== Proof.K.Same.lean ====
module
public import proofs.«01_k».proof.Proof.Gen.Kernel
public import proofs.«01_k».proof.Proof.K.Frame
public import Idealize.ShloMosaic.Lib.Pipeline.Regions
public import Idealize.ShloMosaic.PureOps.BitExact
@[expose] public section
set_option maxRecDepth 16384
noncomputable section
namespace Cert.Kernel.Pursuit
open Idealize.ShloMosaic Idealize.SL.Sem Idealize.ShloMosaic.TcCoe

/-- The two printings of the kernel are one program, so what the frame says of the one it says of the other. -/
theorem same : (∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0))
  = (∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)) := by chain_rfl

/-- The kernel's frame at the machine's own bits. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  same.mp (fun m g => Cert.KernelIdeal.Pursuit.frame (F := Bits) m g) m g

end Cert.Kernel.Pursuit
end
-- ==== Proof.R.Ops.lean ====
module
public import proofs.«01_k».proof.Proof.Gen.ReferenceIdeal
public import Idealize.ShloMosaic.Lib.Pipeline.Regions
public import Idealize.ShloMosaic.Lib.StableHlo.RunLoop
public import Idealize.ShloMosaic.Lib.StableHlo.RunClose
public import Idealize.ShloMosaic.Lib.StableHlo.RunRead
public import Idealize.ShloMosaic.Lib.Quiescent
public import Idealize.ShloMosaic.PureOps.Ideal

@[expose] public section

set_option maxRecDepth 8000

noncomputable section

/-! The reference program's run: its operation lists, the counted loop of eight trips, what it leaves. -/

namespace Cert.ReferenceIdeal.Pursuit
open Cert.ReferenceIdeal Cert.ReferenceIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The operations of the loop condition. -/
def condOps : List (HloOp τ sig (Elt F)) :=
  [StableHlo.nullary main_while0c_c_15 (constantI S_ 32 8#32),
   StableHlo.binary main_v2_1 main_while0c_c_15 main_while0c_v35 (cmpi .slt : (⟨S_, .i32⟩ : BufTy).Contents (Elt F) → (⟨S_, .i32⟩ : BufTy).Contents (Elt F) → (⟨S_, .i1⟩ : BufTy).Contents (Elt F))]

/-- The first operations of a trip: the transposed dictionary, the inner products, their magnitudes. -/
def trip0 : List (HloOp τ sig (Elt F)) :=
  [StableHlo.unary main_v2_0 main_while0b_v35 ((transpose S32x65536 [1, 0] · transposes_S65536x32_S32x65536_1_0) : (⟨S65536x32, .f32⟩ : BufTy).Contents (Elt F) → (⟨S32x65536, .f32⟩ : BufTy).Contents (Elt F)),
   StableHlo.binary main_v2_2 main_while0b_v35 main_while0b_v36 ((fun l r => Host.dotGeneral dot_S128x32_S32x65536_S128x65536_1_0_0_1_n_n none l r) : (⟨S128x32, .f32⟩ : BufTy).Contents (Elt F) → (⟨S32x65536, .f32⟩ : BufTy).Contents (Elt F) → (⟨S128x65536, .f32⟩ : BufTy).Contents (Elt F)),
   StableHlo.unary main_while0b_v36 main_while0b_v37 (Host.absf : (⟨S128x65536, .f32⟩ : BufTy).Contents (Elt F) → (⟨S128x65536, .f32⟩ : BufTy).Contents (Elt F))]

/-- The arg-max along the rows. -/
def trip1 : List (HloOp τ sig (Elt F)) :=
  [StableHlo.TRef.nullary main_while0b_call0.v0 (iotaInDim S128x65536 32 1),
   StableHlo.TRef.nullary main_while0b_call0.cst (constant S_ .f32 0xFF800000#32),
   StableHlo.TRef.nullary main_while0b_call0.c (constantI S_ 32 0#32),
   StableHlo.TRef.quaternary (.of main_while0b_v37 : StableHlo.TRef sig ⟨S128x65536, .f32⟩) main_while0b_call0.v0 main_while0b_call0.cst main_while0b_call0.c main_while0b_call0.v1_0 (fun x y u v j => (Host.argReduce reducer_argmax_f32_i32 x y u v reducesTo_S128x65536_S128_d1 h_S_ j).1),
   StableHlo.TRef.quaternary (.of main_while0b_v37 : StableHlo.TRef sig ⟨S128x65536, .f32⟩) main_while0b_call0.v0 main_while0b_call0.cst main_while0b_call0.c main_while0b_call0.v1_1 (fun x y u v j => (Host.argReduce reducer_argmax_f32_i32 x y u v reducesTo_S128x65536_S128_d1 h_S_ j).2)]

/-- The selected indices as a column. -/
def trip2 : List (HloOp τ sig (Elt F)) :=
  [StableHlo.unary main_while0b_v38 main_while0b_v39 (broadcastInDim S128x1 ![0] bcast_S128_S128x1_0 : (⟨S128, .i32⟩ : BufTy).Contents (Elt F) → (⟨S128x1, .i32⟩ : BufTy).Contents (Elt F))]

/-- The selected inner products. -/
def trip3 : List (HloOp τ sig (Elt F)) :=
  [StableHlo.TRef.nullary main_while0b_call1.c (constantI S_ 32 0#32),
   StableHlo.TRef.unary main_while0b_call1.c main_while0b_call1.v0 (broadcastInDim S128x1 ![] bcast_S_S128x1),
   StableHlo.TRef.binary (.of main_while0b_v39 : StableHlo.TRef sig ⟨S128x1, .i32⟩) main_while0b_call1.v0 main_while0b_call1.v1 (cmpi .slt),
   StableHlo.TRef.nullary main_while0b_call1.c_0 (constantI S_ 32 65536#32),
   StableHlo.TRef.unary main_while0b_call1.c_0 main_while0b_call1.v2 (broadcastInDim S128x1 ![] bcast_S_S128x1),
   StableHlo.TRef.binary (.of main_while0b_v39 : StableHlo.TRef sig ⟨S128x1, .i32⟩) main_while0b_call1.v2 main_while0b_call1.v3 addi,
   StableHlo.TRef.ternary main_while0b_call1.v1 main_while0b_call1.v3 (.of main_while0b_v39 : StableHlo.TRef sig ⟨S128x1, .i32⟩) main_while0b_call1.v4 select,
   StableHlo.TRef.reshape main_while0b_call1.v4 main_while0b_call1.v5 (rfl : (.i32 : EltTy) = .i32) shapeCasts_S128x1_S128x1x1,
   StableHlo.TRef.nullary main_while0b_call1.c_1 (constantI S1 32 65535#32),
   StableHlo.TRef.nullary main_while0b_call1.c_2 (constantI S_ 32 0#32),
   StableHlo.TRef.unary main_while0b_call1.c_2 main_while0b_call1.v6 (broadcastInDim S128x1x1 ![] bcast_S_S128x1x1),
   StableHlo.TRef.binary main_while0b_call1.v5 main_while0b_call1.v6 main_while0b_call1.v7 (cmpi .sge),
   StableHlo.TRef.unary main_while0b_call1.c_1 main_while0b_call1.v8 (broadcastInDim S1x1x1 ![2] bcast_S1_S1x1x1_2),
   StableHlo.TRef.unary main_while0b_call1.v8 main_while0b_call1.v9 (broadcastInDim S128x1x1 ![0, 1, 2] bcast_S1x1x1_S128x1x1_0_1_2),
   StableHlo.TRef.binary main_while0b_call1.v5 main_while0b_call1.v9 main_while0b_call1.v10 (cmpi .sle),
   StableHlo.TRef.binary main_while0b_call1.v7 main_while0b_call1.v10 main_while0b_call1.v11 andi,
   StableHlo.TRef.nullary main_while0b_call1.c_3 (constantI S_ 1 1#1),
   StableHlo.TRef.binary main_while0b_call1.v11 main_while0b_call1.c_3 main_while0b_call1.v12 (fun x v => Host.reduce IntOp.andi x v reducesTo_S128x1x1_S128x1_d2 h_S_),
   StableHlo.TRef.binary (.of main_while0b_v36 : StableHlo.TRef sig ⟨S128x65536, .f32⟩) main_while0b_call1.v5 main_while0b_call1.v13 (fun x i => Host.gather gather_S128x65536_S128x1x1_S128x1_n_1_0_0_1_2_11 x i),
   StableHlo.TRef.nullary main_while0b_call1.cst (constant S_ .f32 0x7FC00000#32),
   StableHlo.TRef.unary main_while0b_call1.cst main_while0b_call1.v14 (broadcastInDim S128x1 ![] bcast_S_S128x1),
   StableHlo.TRef.ternary main_while0b_call1.v12 main_while0b_call1.v13 main_while0b_call1.v14 main_while0b_call1.v15 select]

/-- The selected rows, scaled and taken off the residual. -/
def trip4 : List (HloOp τ sig (Elt F)) :=
  [StableHlo.nullary main_while0b_c_15 (constantI S_ 32 0#32),
   StableHlo.unary main_while0b_c_15 main_while0b_v41 (broadcastInDim S128 ![] bcast_S_S128 : (⟨S_, .i32⟩ : BufTy).Contents (Elt F) → (⟨S128, .i32⟩ : BufTy).Contents (Elt F)),
   StableHlo.binary main_while0b_v38 main_while0b_v41 main_while0b_v42 (cmpi .slt : (⟨S128, .i32⟩ : BufTy).Contents (Elt F) → (⟨S128, .i32⟩ : BufTy).Contents (Elt F) → (⟨S128, .i1⟩ : BufTy).Contents (Elt F)),
   StableHlo.nullary main_while0b_c_16 (constantI S_ 32 65536#32),
   StableHlo.unary main_while0b_c_16 main_while0b_v43 (broadcastInDim S128 ![] bcast_S_S128 : (⟨S_, .i32⟩ : BufTy).Contents (Elt F) → (⟨S128, .i32⟩ : BufTy).Contents (Elt F)),
   StableHlo.binary main_while0b_v38 main_while0b_v43 main_while0b_v44 (addi : (⟨S128, .i32⟩ : BufTy).Contents (Elt F) → (⟨S128, .i32⟩ : BufTy).Contents (Elt F) → (⟨S128, .i32⟩ : BufTy).Contents (Elt F)),
   StableHlo.ternary main_while0b_v42 main_while0b_v44 main_while0b_v38 main_while0b_v45 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
   StableHlo.unary main_while0b_v45 main_while0b_v46 (broadcastInDim S128x1 ![0] bcast_S128_S128x1_0 : (⟨S128, .i32⟩ : BufTy).Contents (Elt F) → (⟨S128x1, .i32⟩ : BufTy).Contents (Elt F)),
   StableHlo.binary main_v2_0 main_while0b_v46 main_while0b_v47 ((fun x i => Host.gather gather_S65536x32_S128x1_S128x32_1_0_n_n_0_1_132 x i) : (⟨S65536x32, .f32⟩ : BufTy).Contents (Elt F) → (⟨S128x1, .i32⟩ : BufTy).Contents (Elt F) → (⟨S128x32, .f32⟩ : BufTy).Contents (Elt F)),
   StableHlo.unary main_while0b_v40 main_while0b_v48 (broadcastInDim S128x32 ![0, 1] bcast_S128x1_S128x32_0_1 : (⟨S128x1, .f32⟩ : BufTy).Contents (Elt F) → (⟨S128x32, .f32⟩ : BufTy).Contents (Elt F)),
   StableHlo.binary main_while0b_v48 main_while0b_v47 main_while0b_v49 (mulf : (⟨S128x32, .f32⟩ : BufTy).Contents (Elt F) → (⟨S128x32, .f32⟩ : BufTy).Contents (Elt F) → (⟨S128x32, .f32⟩ : BufTy).Contents (Elt F)),
   StableHlo.binary main_v2_2 main_while0b_v49 main_while0b_v50 (subf : (⟨S128x32, .f32⟩ : BufTy).Contents (Elt F) → (⟨S128x32, .f32⟩ : BufTy).Contents (Elt F) → (⟨S128x32, .f32⟩ : BufTy).Contents (Elt F))]

/-- The selected indices written into their row of the table. -/
def trip5 : List (HloOp τ sig (Elt F)) :=
  [StableHlo.TRef.unary (.of main_while0b_v38 : StableHlo.TRef sig ⟨S128, .i32⟩) main_while0b_call2.v0 (broadcastInDim S1x128 ![1] bcast_S128_S1x128_1),
   StableHlo.TRef.nullary main_while0b_call2.c (constantI S_ 32 0#32),
   StableHlo.TRef.binaryIndexed (.of main_v2_4 : StableHlo.TRef sig ⟨S8x128, .i32⟩) main_while0b_call2.v0 ![(.of main_v2_1 : StableHlo.TRef sig ⟨S_, .i32⟩), main_while0b_call2.c] main_while0b_call2.v1 (fun x u i => Host.dynamicUpdateSlice x u (fun k => (i k (Shape.Idx.first h_S_)).toInt) updateFits_S8x128_S1x128)]

/-- The counter, and the copies into the carried buffers. -/
def trip6 : List (HloOp τ sig (Elt F)) :=
  [StableHlo.nullary main_while0b_c_17 (constantI S_ 32 1#32),
   StableHlo.binary main_v2_1 main_while0b_c_17 main_while0b_v52 (addi : (⟨S_, .i32⟩ : BufTy).Contents (Elt F) → (⟨S_, .i32⟩ : BufTy).Contents (Elt F) → (⟨S_, .i32⟩ : BufTy).Contents (Elt F)),
   StableHlo.unary main_while0b_v52 main_v2_1 id,
   StableHlo.unary main_while0b_v50 main_v2_2 id,
   StableHlo.unary main_while0b_v36 main_v2_3 id,
   StableHlo.unary main_while0b_v51 main_v2_4 id]

/-- The operations before the loop. -/
def pre : List (HloOp τ sig (Elt F)) :=
  [StableHlo.nullary main_cst (constant S_ .f32 0x00000000#32),
   StableHlo.unary main_cst main_v0 (broadcastInDim S128x65536 ![] bcast_S_S128x65536 : (⟨S_, .f32⟩ : BufTy).Contents (Elt F) → (⟨S128x65536, .f32⟩ : BufTy).Contents (Elt F)),
   StableHlo.nullary main_c (constantI S_ 32 0#32),
   StableHlo.unary main_c main_v1 (broadcastInDim S8x128 ![] bcast_S_S8x128 : (⟨S_, .i32⟩ : BufTy).Contents (Elt F) → (⟨S8x128, .i32⟩ : BufTy).Contents (Elt F)),
   StableHlo.nullary main_c_0 (constantI S_ 32 0#32),
   StableHlo.unary main_arg1 main_v2_0 id,
   StableHlo.unary main_c_0 main_v2_1 id,
   StableHlo.unary main_arg0 main_v2_2 id,
   StableHlo.unary main_v0 main_v2_3 id,
   StableHlo.unary main_v1 main_v2_4 id]

/-- After the loop, up to the gather of the coefficients. -/
def post0 : List (HloOp τ sig (Elt F)) :=
  [StableHlo.nullary main_v3 (iotaInDim S128 32 0),
   StableHlo.unary main_v3 main_v4 (broadcastInDim S128x1 ![0] bcast_S128_S128x1_0 : (⟨S128, .i32⟩ : BufTy).Contents (Elt F) → (⟨S128x1, .i32⟩ : BufTy).Contents (Elt F)),
   StableHlo.nullary main_cst_1 (constant S_ .f32 0x00000000#32),
   StableHlo.unary main_cst_1 main_v5 (broadcastInDim S128x65536 ![] bcast_S_S128x65536 : (⟨S_, .f32⟩ : BufTy).Contents (Elt F) → (⟨S128x65536, .f32⟩ : BufTy).Contents (Elt F)),
   StableHlo.unary main_v2_4 main_v6 ((transpose S128x8 [1, 0] · transposes_S8x128_S128x8_1_0) : (⟨S8x128, .i32⟩ : BufTy).Contents (Elt F) → (⟨S128x8, .i32⟩ : BufTy).Contents (Elt F)),
   StableHlo.unary main_v2_4 main_v7 ((transpose S128x8 [1, 0] · transposes_S8x128_S128x8_1_0) : (⟨S8x128, .i32⟩ : BufTy).Contents (Elt F) → (⟨S128x8, .i32⟩ : BufTy).Contents (Elt F))]

/-- The gather of the coefficients. -/
def post1 : List (HloOp τ sig (Elt F)) :=
  [StableHlo.TRef.nullary main_call3.c (constantI S_ 32 0#32),
   StableHlo.TRef.unary main_call3.c main_call3.v0 (broadcastInDim S128x8 ![] bcast_S_S128x8),
   StableHlo.TRef.binary (.of main_v7 : StableHlo.TRef sig ⟨S128x8, .i32⟩) main_call3.v0 main_call3.v1 (cmpi .slt),
   StableHlo.TRef.nullary main_call3.c_0 (constantI S_ 32 65536#32),
   StableHlo.TRef.unary main_call3.c_0 main_call3.v2 (broadcastInDim S128x8 ![] bcast_S_S128x8),
   StableHlo.TRef.binary (.of main_v7 : StableHlo.TRef sig ⟨S128x8, .i32⟩) main_call3.v2 main_call3.v3 addi,
   StableHlo.TRef.ternary main_call3.v1 main_call3.v3 (.of main_v7 : StableHlo.TRef sig ⟨S128x8, .i32⟩) main_call3.v4 select,
   StableHlo.TRef.reshape main_call3.v4 main_call3.v5 (rfl : (.i32 : EltTy) = .i32) shapeCasts_S128x8_S128x8x1,
   StableHlo.TRef.nullary main_call3.c_1 (constantI S1 32 65535#32),
   StableHlo.TRef.nullary main_call3.c_2 (constantI S_ 32 0#32),
   StableHlo.TRef.unary main_call3.c_2 main_call3.v6 (broadcastInDim S128x8x1 ![] bcast_S_S128x8x1),
   StableHlo.TRef.binary main_call3.v5 main_call3.v6 main_call3.v7 (cmpi .sge),
   StableHlo.TRef.unary main_call3.c_1 main_call3.v8 (broadcastInDim S1x1x1 ![2] bcast_S1_S1x1x1_2),
   StableHlo.TRef.unary main_call3.v8 main_call3.v9 (broadcastInDim S128x8x1 ![0, 1, 2] bcast_S1x1x1_S128x8x1_0_1_2),
   StableHlo.TRef.binary main_call3.v5 main_call3.v9 main_call3.v10 (cmpi .sle),
   StableHlo.TRef.binary main_call3.v7 main_call3.v10 main_call3.v11 andi,
   StableHlo.TRef.nullary main_call3.c_3 (constantI S_ 1 1#1),
   StableHlo.TRef.binary main_call3.v11 main_call3.c_3 main_call3.v12 (fun x v => Host.reduce IntOp.andi x v reducesTo_S128x8x1_S128x8_d2 h_S_),
   StableHlo.TRef.binary (.of main_v2_3 : StableHlo.TRef sig ⟨S128x65536, .f32⟩) main_call3.v5 main_call3.v13 (fun x i => Host.gather gather_S128x65536_S128x8x1_S128x8_n_1_0_0_1_2_11 x i),
   StableHlo.TRef.nullary main_call3.cst (constant S_ .f32 0x7FC00000#32),
   StableHlo.TRef.unary main_call3.cst main_call3.v14 (broadcastInDim S128x8 ![] bcast_S_S128x8),
   StableHlo.TRef.ternary main_call3.v12 main_call3.v13 main_call3.v14 main_call3.v15 select]

/-- The scatter of the coefficients, the reconstruction and the two terms of the loss. -/
def post2 : List (HloOp τ sig (Elt F)) :=
  [StableHlo.nullary main_c_2 (constantI S_ 32 0#32),
   StableHlo.unary main_c_2 main_v9 (broadcastInDim S128x1 ![] bcast_S_S128x1 : (⟨S_, .i32⟩ : BufTy).Contents (Elt F) → (⟨S128x1, .i32⟩ : BufTy).Contents (Elt F)),
   StableHlo.binary main_v4 main_v9 main_v10 (cmpi .slt : (⟨S128x1, .i32⟩ : BufTy).Contents (Elt F) → (⟨S128x1, .i32⟩ : BufTy).Contents (Elt F) → (⟨S128x1, .i1⟩ : BufTy).Contents (Elt F)),
   StableHlo.nullary main_c_3 (constantI S_ 32 128#32),
   StableHlo.unary main_c_3 main_v11 (broadcastInDim S128x1 ![] bcast_S_S128x1 : (⟨S_, .i32⟩ : BufTy).Contents (Elt F) → (⟨S128x1, .i32⟩ : BufTy).Contents (Elt F)),
   StableHlo.binary main_v4 main_v11 main_v12 (addi : (⟨S128x1, .i32⟩ : BufTy).Contents (Elt F) → (⟨S128x1, .i32⟩ : BufTy).Contents (Elt F) → (⟨S128x1, .i32⟩ : BufTy).Contents (Elt F)),
   StableHlo.ternary main_v10 main_v12 main_v4 main_v13 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
   StableHlo.nullary main_c_4 (constantI S_ 32 0#32),
   StableHlo.unary main_c_4 main_v14 (broadcastInDim S128x8 ![] bcast_S_S128x8 : (⟨S_, .i32⟩ : BufTy).Contents (Elt F) → (⟨S128x8, .i32⟩ : BufTy).Contents (Elt F)),
   StableHlo.binary main_v6 main_v14 main_v15 (cmpi .slt : (⟨S128x8, .i32⟩ : BufTy).Contents (Elt F) → (⟨S128x8, .i32⟩ : BufTy).Contents (Elt F) → (⟨S128x8, .i1⟩ : BufTy).Contents (Elt F)),
   StableHlo.nullary main_c_5 (constantI S_ 32 65536#32),
   StableHlo.unary main_c_5 main_v16 (broadcastInDim S128x8 ![] bcast_S_S128x8 : (⟨S_, .i32⟩ : BufTy).Contents (Elt F) → (⟨S128x8, .i32⟩ : BufTy).Contents (Elt F)),
   StableHlo.binary main_v6 main_v16 main_v17 (addi : (⟨S128x8, .i32⟩ : BufTy).Contents (Elt F) → (⟨S128x8, .i32⟩ : BufTy).Contents (Elt F) → (⟨S128x8, .i32⟩ : BufTy).Contents (Elt F)),
   StableHlo.ternary main_v15 main_v17 main_v6 main_v18 (select : (⟨S128x8, .i1⟩ : BufTy).Contents (Elt F) → (⟨S128x8, .i32⟩ : BufTy).Contents (Elt F) → (⟨S128x8, .i32⟩ : BufTy).Contents (Elt F) → (⟨S128x8, .i32⟩ : BufTy).Contents (Elt F)),
   StableHlo.unary main_v13 main_v19 (broadcastInDim S128x8 ![0, 1] bcast_S128x1_S128x8_0_1 : (⟨S128x1, .i32⟩ : BufTy).Contents (Elt F) → (⟨S128x8, .i32⟩ : BufTy).Contents (Elt F)),
   StableHlo.unary main_v19 main_v20 (broadcastInDim S128x8x1 ![0, 1] bcast_S128x8_S128x8x1_0_1 : (⟨S128x8, .i32⟩ : BufTy).Contents (Elt F) → (⟨S128x8x1, .i32⟩ : BufTy).Contents (Elt F)),
   StableHlo.unary main_v18 main_v21 (broadcastInDim S128x8x1 ![0, 1] bcast_S128x8_S128x8x1_0_1 : (⟨S128x8, .i32⟩ : BufTy).Contents (Elt F) → (⟨S128x8x1, .i32⟩ : BufTy).Contents (Elt F)),
   StableHlo.binary main_v20 main_v21 main_v22 ((fun a b => concatenate S128x8x2 2 [⟨S128x8x1, a⟩, ⟨S128x8x1, b⟩] concatenates_S128x8x1_S128x8x1_S128x8x2_d2) : (⟨S128x8x1, .i32⟩ : BufTy).Contents (Elt F) → (⟨S128x8x1, .i32⟩ : BufTy).Contents (Elt F) → (⟨S128x8x2, .i32⟩ : BufTy).Contents (Elt F)),
   StableHlo.ternary main_v5 main_v22 main_v8 main_v23 ((fun x i u => Host.scatter scatter_S128x65536_S128x8x2_S128x8_n_01_01_2 (fun _ b => b) x i u) : (⟨S128x65536, .f32⟩ : BufTy).Contents (Elt F) → (⟨S128x8x2, .i32⟩ : BufTy).Contents (Elt F) → (⟨S128x8, .f32⟩ : BufTy).Contents (Elt F) → (⟨S128x65536, .f32⟩ : BufTy).Contents (Elt F)),
   StableHlo.binary main_v23 main_arg1 main_v24 ((fun l r => Host.dotGeneral dot_S128x65536_S65536x32_S128x32_1_0_0_1_n_n none l r) : (⟨S128x65536, .f32⟩ : BufTy).Contents (Elt F) → (⟨S65536x32, .f32⟩ : BufTy).Contents (Elt F) → (⟨S128x32, .f32⟩ : BufTy).Contents (Elt F)),
   StableHlo.binary main_v24 main_arg0 main_v25 (subf : (⟨S128x32, .f32⟩ : BufTy).Contents (Elt F) → (⟨S128x32, .f32⟩ : BufTy).Contents (Elt F) → (⟨S128x32, .f32⟩ : BufTy).Contents (Elt F)),
   StableHlo.binary main_v25 main_v25 main_v26 (mulf : (⟨S128x32, .f32⟩ : BufTy).Contents (Elt F) → (⟨S128x32, .f32⟩ : BufTy).Contents (Elt F) → (⟨S128x32, .f32⟩ : BufTy).Contents (Elt F)),
   StableHlo.nullary main_cst_6 (constant S_ .f32 0x00000000#32),
   StableHlo.binary main_v26 main_cst_6 main_v27 ((fun x v => Host.reduceAdd x v reducesTo_S128x32_S_d0_1 h_S_) : (⟨S128x32, .f32⟩ : BufTy).Contents (Elt F) → (⟨S_, .f32⟩ : BufTy).Contents (Elt F) → (⟨S_, .f32⟩ : BufTy).Contents (Elt F)),
   StableHlo.nullary main_cst_7 (constant S_ .f32 0x45800000#32),
   StableHlo.binary main_v27 main_cst_7 main_v28 (Host.divf : (⟨S_, .f32⟩ : BufTy).Contents (Elt F) → (⟨S_, .f32⟩ : BufTy).Contents (Elt F) → (⟨S_, .f32⟩ : BufTy).Contents (Elt F)),
   StableHlo.unary main_v23 main_v29 (Host.absf : (⟨S128x65536, .f32⟩ : BufTy).Contents (Elt F) → (⟨S128x65536, .f32⟩ : BufTy).Contents (Elt F)),
   StableHlo.nullary main_cst_8 (constant S_ .f32 0x00000000#32),
   StableHlo.binary main_v29 main_cst_8 main_v30 ((fun x v => Host.reduceAdd x v reducesTo_S128x65536_S_d0_1 h_S_) : (⟨S128x65536, .f32⟩ : BufTy).Contents (Elt F) → (⟨S_, .f32⟩ : BufTy).Contents (Elt F) → (⟨S_, .f32⟩ : BufTy).Contents (Elt F)),
   StableHlo.nullary main_cst_9 (constant S_ .f32 0x43000000#32),
   StableHlo.binary main_v30 main_cst_9 main_v31 (Host.divf : (⟨S_, .f32⟩ : BufTy).Contents (Elt F) → (⟨S_, .f32⟩ : BufTy).Contents (Elt F) → (⟨S_, .f32⟩ : BufTy).Contents (Elt F)),
   StableHlo.nullary main_cst_10 (constant S_ .f32 0x3DCCCCCD#32),
   StableHlo.binary main_cst_10 main_v31 main_v32 (mulf : (⟨S_, .f32⟩ : BufTy).Contents (Elt F) → (⟨S_, .f32⟩ : BufTy).Contents (Elt F) → (⟨S_, .f32⟩ : BufTy).Contents (Elt F)),
   StableHlo.binary main_v28 main_v32 main_v33 (addf : (⟨S_, .f32⟩ : BufTy).Contents (Elt F) → (⟨S_, .f32⟩ : BufTy).Contents (Elt F) → (⟨S_, .f32⟩ : BufTy).Contents (Elt F)),
   StableHlo.reshape main_v33 main_v34 (rfl : (.f32 : EltTy) = .f32) shapeCasts_S_S1x1]

end Cert.ReferenceIdeal.Pursuit

end
-- ==== Proof.R.Run.lean ====
module
public import proofs.«01_k».proof.Proof.R.Ops
public import Idealize.ShloMosaic.Lib.Pipeline.Regions
public import Idealize.ShloMosaic.Lib.StableHlo.RunLoop
public import Idealize.ShloMosaic.Lib.StableHlo.RunClose
public import Idealize.ShloMosaic.Lib.StableHlo.RunRead
public import Idealize.ShloMosaic.Lib.Quiescent
public import Idealize.ShloMosaic.PureOps.Ideal

@[expose] public section

set_option maxRecDepth 8000

noncomputable section

/-! The reference program's run: its operation lists, the counted loop of eight trips, what it leaves. -/

namespace Cert.ReferenceIdeal.Pursuit
open Cert.ReferenceIdeal Cert.ReferenceIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

/-- The stretches before the loop. -/
abbrev preI : List (List (HloOp τ sig (Elt Ideal))) := [pre]

/-- The stretches of one trip. -/
abbrev bodyI : List (List (HloOp τ sig (Elt Ideal))) := [trip0, trip1, trip2, trip3, trip4, trip5, trip6]

/-- The stretches after the loop. -/
abbrev postI : List (List (HloOp τ sig (Elt Ideal))) := [post0, post1, post2]

/-- The loop body is its stretches in order. -/
theorem body_chain : main_while0_body (F := Ideal) = Pipeline.chain (bodyI.map fun ops => (seq ops : Prog _ PUnit)) := by
  simp only [List.map_cons, List.map_nil]
  rewrite [StableHlo.chain_seq_cons, Pipeline.chain_cons, StableHlo.chain_seq_cons, Pipeline.chain_cons, StableHlo.chain_seq_cons,
    Pipeline.chain_cons, StableHlo.chain_seq_cons]
  chain_rfl

/-- The program is its stretches with the loop between them. -/
theorem main_eq (c : Dev nD) : main (F := Ideal) c
    = Pipeline.chain ((preI.map fun ops => (seq ops : Prog _ PUnit)) ++ HostLoop.enter 0 :: postI.map fun ops => (seq ops : Prog _ PUnit)) := by
  simp only [List.map_cons, List.map_nil, List.cons_append, List.nil_append]
  rewrite [StableHlo.chain_seq_cons, Pipeline.chain_cons, StableHlo.chain_seq_cons, Pipeline.chain_cons, StableHlo.chain_seq_cons]
  chain_rfl

/-- One more plain stretch: its operations' buffers are the core's, and none is allocated. -/
theorem plain_cons {ops : List (HloOp τ sig (Elt Ideal))} {rest : List (List (HloOp τ sig (Elt Ideal)))}
    (hs : ops.Forall fun op => op.bufs ⊆ tcRefs τ sig) (hf : ops.map HloOp.fresh = ops.map fun _ => (∅ : Finset (DevRef τ sig)))
    (h : Plain rest) : Plain (ops :: rest) :=
  .cons hs h (List.forall_iff_forall_mem.mp (forall_fresh_of_map hf))

/-- The stretches before the loop are plain. -/
theorem plain_pre : Plain preI := plain_cons (by simp [pre]) rfl .nil

/-- A trip's stretches are plain. -/
theorem plain_body : Plain bodyI :=
  plain_cons (by simp [trip0]) rfl <| plain_cons (by simp [trip1]) rfl <| plain_cons (by simp [trip2]) rfl <|
  plain_cons (by simp [trip3]) rfl <| plain_cons (by simp [trip4]) rfl <| plain_cons (by simp [trip5]) rfl <|
  plain_cons (by simp [trip6]) rfl .nil

/-- The stretches after the loop are plain. -/
theorem plain_post : Plain postI :=
  plain_cons (by simp [post0]) rfl <| plain_cons (by simp [post1]) rfl <| plain_cons (by simp [post2]) rfl .nil

/-- The counter before the first trip. -/
theorem ctr_pre (V : Valuation τ sig (Elt Ideal)) : afterL preI V (Proc.devRef .tc main_v2_1) = constantI S_ 32 0#32 := by
  simp only [afterL_cons, afterL_nil, pre]
  after_results_simp
  rfl

/-- One trip adds one to the counter. -/
theorem ctr_step (V : Valuation τ sig (Elt Ideal)) :
    afterL bodyI (after condOps V) (Proc.devRef .tc main_v2_1) = addi (V (Proc.devRef .tc main_v2_1)) (constantI S_ 32 1#32) := by
  simp only [afterL_cons, afterL_nil, trip0, trip1, trip2, trip3, trip4, trip5, trip6, condOps]
  after_reads_simp
  rfl

/-- Adding one to the counter's value. -/
theorem one_more (k : ℕ) : addi (constantI S_ 32 (BitVec.ofNat 32 k)) (constantI S_ 32 1#32) = constantI S_ 32 (BitVec.ofNat 32 (k + 1)) := by
  funext i
  exact BitVec.ofNat_add_ofNat ..

variable (m : (ℓ : Loc nD τ sig) → Buf (Elt Ideal) ℓ) (ρ : Dev nD → PrngReg)

/-- Every buffer's contents before the `k`-th trip. -/
abbrev atK (k : ℕ) (c : Dev nD) : Valuation τ sig (Elt Ideal) := atTrip condOps bodyI (entryContents preI m) k c

/-- The counter before trip `k` is `k`. -/
theorem ctr_at (c : Dev nD) (k : ℕ) : atK m k c (Proc.devRef .tc main_v2_1) = constantI S_ 32 (BitVec.ofNat 32 k) := by
  induction k with
  | zero => exact ctr_pre _
  | succ k ih => exact (ctr_step (atK m k c)).trans ((congrArg (addi · (constantI S_ 32 1#32)) ih).trans (one_more k))

/-- The condition holds exactly before the first eight trips. -/
theorem cmp_iff (k : ℕ) (hk : k ≤ 8) : Iff (IntOp.cmpi .slt (BitVec.ofNat 32 k) 8#32 = 1#1) (k < 8) := by
  interval_cases k <;> decide

set_option backward.isDefEq.respectTransparency false in
/-- What the condition does before trip `k`. -/
theorem cond_spec : CondSpec pcfgs defs₀ loops (main_while0_cond (F := Ideal)) condOps bodyI (entryContents preI m) 8 := by
  intro k hk c bd
  have hctr := ctr_at m c k
  simp only [main_while0_cond, bind_pure]
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) (Proc.devRef .tc main_v2_1) HostLoop.idx0)
        (HloOp.result _ (atK m k c) (Proc.devRef .tc main_while0c_c_15) HostLoop.idx0) = 1#1) (k < 8)
    rw [StableHlo.nullary_result_ne _ _ _ _ (by decide), StableHlo.nullary_result, hctr]
    exact cmp_iff k hk
  isplitl [Hb]; · iexact Hb
  unfold condOps
  rw [StableHlo.after_cons, StableHlo.after_cons, StableHlo.after_nil]; iexact Hh

/-- The run: every buffer ends at the fold of its stretches and of eight trips. -/
theorem run_fold : θ_run (defs (F := Ideal)) (onTc (τ := τ) (main (F := Ideal))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 8 m c (Proc.devRef .tc b)) :=
  run_loop pcfgs defs₀ loops main 0 main_while0_cond main_while0_body rfl preI bodyI postI condOps plain_pre plain_body plain_post
    main_eq body_chain 8 m ρ (cond_spec m)

/-- No trip writes the arguments or the dictionary's copy. -/
theorem keep_body (V : Valuation τ sig (Elt Ideal)) :
    afterL bodyI (after condOps V) (Proc.devRef .tc main_arg0) = V (Proc.devRef .tc main_arg0)
    ∧ afterL bodyI (after condOps V) (Proc.devRef .tc main_arg1) = V (Proc.devRef .tc main_arg1)
    ∧ afterL bodyI (after condOps V) (Proc.devRef .tc main_v2_0) = V (Proc.devRef .tc main_v2_0) := by
  simp only [afterL_cons, afterL_nil, trip0, trip1, trip2, trip3, trip4, trip5, trip6, condOps]
  after_reads_simp
  exact ⟨trivial, trivial, trivial⟩

/-- Before the loop the arguments are as at launch, and the carried buffers hold the program's start. -/
theorem at_entry (V : Valuation τ sig (Elt Ideal)) :
    afterL preI V (Proc.devRef .tc main_arg0) = V (Proc.devRef .tc main_arg0)
    ∧ afterL preI V (Proc.devRef .tc main_arg1) = V (Proc.devRef .tc main_arg1)
    ∧ afterL preI V (Proc.devRef .tc main_v2_0) = V (Proc.devRef .tc main_arg1)
    ∧ afterL preI V (Proc.devRef .tc main_v2_2) = V (Proc.devRef .tc main_arg0) := by
  simp only [afterL_cons, afterL_nil, pre]
  after_reads_simp
  exact ⟨trivial, trivial, rfl, rfl⟩

/-- The arguments and the dictionary's copy before trip `k`. -/
theorem kept_at (c : Dev nD) (k : ℕ) :
    atK m k c (Proc.devRef .tc main_arg0) = m ((c.tc : Thread nD τ).loc main_arg0)
    ∧ atK m k c (Proc.devRef .tc main_arg1) = m ((c.tc : Thread nD τ).loc main_arg1)
    ∧ atK m k c (Proc.devRef .tc main_v2_0) = m ((c.tc : Thread nD τ).loc main_arg1) := by
  induction k with
  | zero => exact ⟨(at_entry _).1, (at_entry _).2.1, (at_entry _).2.2.1⟩
  | succ k ih =>
    exact ⟨(keep_body _).1.trans ih.1, (keep_body _).2.1.trans ih.2.1, (keep_body _).2.2.trans ih.2.2⟩

/-- The stretches after the loop write no argument. -/
theorem keep_post (V : Valuation τ sig (Elt Ideal)) :
    afterL postI (after condOps V) (Proc.devRef .tc main_arg0) = V (Proc.devRef .tc main_arg0)
    ∧ afterL postI (after condOps V) (Proc.devRef .tc main_arg1) = V (Proc.devRef .tc main_arg1) := by
  simp only [afterL_cons, afterL_nil, post0, post1, post2, condOps]
  after_reads_simp
  exact ⟨trivial, trivial⟩

/-- The result the program ends with. -/
def out (c : Dev nD) : Buf (Elt Ideal) ((c.tc : Thread nD τ).loc main_v34) :=
  finalContents condOps preI bodyI postI 8 m c (Proc.devRef .tc main_v34)

/-- The run, read at the result and the arguments. -/
theorem run_result : θ_run (defs (F := Ideal)) (onTc (τ := τ) (main (F := Ideal))) ⟨m, fun _ => 0, ρ⟩ fun r => ∀ c : Dev nD,
    r.2.mem ((c.tc : Thread nD τ).loc main_v34) = out m c
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨h c main_v34 rfl,
    (h c main_arg0 rfl).trans ((keep_post _).1.trans (kept_at m c 8).1),
    (h c main_arg1 rfl).trans ((keep_post _).2.trans (kept_at m c 8).2.1)⟩) (run_fold m ρ)

/-- The reference terminates with its arguments unchanged; it has no semaphore. -/
theorem frame : θ_run (defs (F := Ideal)) (onTc (τ := τ) (main (F := Ideal))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1))
    ∧ r.2.sem = fun _ => 0) :=
  (θ_run defs _ _).mono (fun r h => ⟨fun c => (h c).2, sem_eq_zero_of_no_sems rfl r.2⟩) (run_result m ρ)

end Cert.ReferenceIdeal.Pursuit

end
-- ==== Proof.K.Value.lean ====
module
public import proofs.«01_k».proof.Proof.K.Frame
import all proofs.«01_k».proof.Proof.K.Run
@[expose] public section
set_option maxRecDepth 16384
noncomputable section
namespace Cert.KernelIdeal.Pursuit
open Cert.KernelIdeal Cert.KernelIdeal.Gen Idealize.ShloMosaic Idealize.ShloMosaic.TcCoe

variable {F : FTy → Type} [FloatOps F]

section steps
variable (D : Vec F S32x65536 .f32) (P : Vec F S16384x128 .f32)

/-- What a step's search starts from: nothing found, and the first group's inner products. -/
def start (r : FVec F S128x32 .f32) : Acc F :=
  (k0_pay274, k0_pay275, k0_pay276, dots r (cols D 0), dots r (cols D 16384), dots r (cols D 32768), dots r (cols D 49152))

/-- What a step's search of all 32 blocks finds. -/
def found (r : FVec F S128x32 .f32) : Acc F :=
  scan (iota .tc S128x2048 32 [1] iota_S128x2048_d1_w32) (iota .tc S128x512 32 [1] iota_S128x512_d1_w32) r D (high P) (mid P) (low P) (start D r) 8

/-- The row a step picks, cut out of its packed row. -/
def rowOf (r : FVec F S128x32 .f32) : FVec F S128x32 .f32 := k0_pay286 k0_pay273 (found D P r).2.1 (found D P r).2.2.1

/-- A step's inner product with the row it picks: the magnitude found, with the sign taken from the row. -/
def signed (r : FVec F S128x32 .f32) : FVec F S128x1 .f32 := k0_pay326 k0_pay273 r (found D P r).1 (found D P r).2.1 (found D P r).2.2.1

/-- What a step leaves of the residual. -/
def next (r : FVec F S128x32 .f32) : FVec F S128x32 .f32 := k0_pay327 r (rowOf D P r) (signed D P r)

/-- The residual after `k` steps. -/
def res (x : FVec F S128x32 .f32) : ℕ → FVec F S128x32 .f32
  | 0 => x
  | k + 1 => next D P (res x k)

/-- The row step `k` picks. -/
def rowAt (x : FVec F S128x32 .f32) (k : ℕ) : FVec F S128x32 .f32 := rowOf D P (res D P x k)
/-- And where. -/
def placeAt (x : FVec F S128x32 .f32) (k : ℕ) : IVec S128x1 32 := (found D P (res D P x k)).2.1
/-- Step `k`'s coefficient, for the first seven: the last residual's inner product with the row. -/
def coef (x : FVec F S128x32 .f32) (k : ℕ) : FVec F S128x1 .f32 := k0_pay386 (rowAt D P x k) (res D P x 7)
end steps

/-- The step after the search: the loss of the coefficients `c` on the rows `g` at the places `p`. -/
def loss (x : FVec F S128x32 .f32) (p : ℕ → IVec S128x1 32) (g : ℕ → FVec F S128x32 .f32) (c : ℕ → FVec F S128x1 .f32) : FVec F S1x1 .f32 :=
  k0_pay1
    (k0_pay409 x (p 0) (p 1) (p 2) (p 3) (p 4) (p 5) (p 6) (g 6) (p 7) (g 7) (c 7) (c 6)
      (k0_pay404 (p 0) (p 1) (p 2) (p 3) (p 4) (g 4) (p 5) (g 5) (c 4) (c 5)
        (k0_pay400 (p 0) (g 0) (p 1) (g 1) (p 2) (g 2) (p 3) (g 3) (c 1) (c 2) (c 3) k0_pay393 (mulf (k0_pay395 (F := F)) (c 0))))
      (k0_pay406 (p 0) (p 1) (p 2) (p 3) (p 4) (p 5) (p 6)))
    (k0_pay410 (p 0) (p 1) (p 2) (p 3) (p 4) (p 5) (p 6) (p 7) (c 7) (c 6)
      (k0_pay405 (p 0) (p 1) (p 2) (p 3) (p 4) (p 5) (c 4) (c 5) (k0_pay401 (p 0) (p 1) (p 2) (p 3) (c 0) (c 1) (c 2) (c 3) k0_pay394 k0_pay395))
      (k0_pay406 (p 0) (p 1) (p 2) (p 3) (p 4) (p 5) (p 6)))

/-- The eight coefficients. -/
def coefs (D : Vec F S32x65536 .f32) (P : Vec F S16384x128 .f32) (x : FVec F S128x32 .f32) (k : ℕ) : FVec F S128x1 .f32 :=
  if k = 7 then signed D P (res D P x 7) else coef D P x k

/-- What the kernel stores: its closed form. -/
def out (x : Vec F S128x32 .f32) (D : Vec F S32x65536 .f32) (P : Vec F S16384x128 .f32) : FVec F S1x1 .f32 :=
  loss x (placeAt D P x) (rowAt D P x) (coefs D P x)

section loads
variable {arg0 : Memref sig .tc .vmem S128x32 .f32} (harg0 : arg0.IsWhole) {arg1 : Memref sig .tc .vmem S32x65536 .f32} (harg1 : arg1.IsWhole)
  (x0 : Vec F S128x32 .f32) (x1 : Vec F S32x65536 .f32)
/-- A load of the whole first input. -/
theorem load_x (inb : ∀ a, (![0, 0] : Fin 2 → ℕ) a + S128x32.size a ≤ S128x32.size a) :
    View.readAt (Elt F) arg0.view (Rect.unit (s := S128x32) ![0, 0] S128x32.size inb).toLoadRect (harg0.unread x0) = x0 := by
  refine Eq.trans (funext fun i => ?_) (harg0.read_unread x0)
  refine congrArg (arg0.view.read (Elt F) (harg0.unread x0)) (funext fun a => ?_)
  fin_cases a
  · exact Fin.ext (by show 0 + 1 * (i 0).val = (i 0).val; omega)
  · exact Fin.ext (by show 0 + 1 * (i 1).val = (i 1).val; omega)
/-- A load of 2048 columns of the second. -/
theorem load_D (o : ℕ) (inb : ∀ a, (![0, o] : Fin 2 → ℕ) a + S32x2048.size a ≤ S32x65536.size a) :
    View.readAt (Elt F) arg1.view (Rect.unit (s := S32x65536) ![0, o] S32x2048.size inb).toLoadRect (harg1.unread x1) = cols x1 o := by
  rw [load_cols (harg1.unread x1) o rfl inb, harg1.read_unread]
/-- The inner products as the body writes them. -/
theorem dots_eq (r : FVec F S128x32 .f32) (B : Vec F S32x2048 .f32) :
    matmul (φ₂ := .f32) dot_S128x32_S32x2048_S128x2048_1_0_0_1_n_n none r (shapeCast S32x2048 B shapeCasts_S32x2048_S32x2048) (constant S128x2048 .f32 0x00000000#32) = dots r B := by
  rw [shapeCast_self]; unfold dots; rfl
end loads

/-- A load of the whole first input, its shape written out. -/
theorem load_x_lit {arg0 : Memref sig .tc .vmem S128x32 .f32} (harg0 : arg0.IsWhole) (x0 : Vec F S128x32 .f32)
    (inb : ∀ a, (![0, 0] : Fin 2 → ℕ) a + (![128, 32] : Fin 2 → ℕ) a ≤ S128x32.size a) :
    View.readAt (Elt F) arg0.view (Rect.unit (s := S128x32) ![0, 0] ![128, 32] inb).toLoadRect (harg0.unread x0) = x0 :=
  load_x harg0 x0 inb
/-- A load of 2048 columns, the block's shape written out. -/
theorem load_D_lit {arg1 : Memref sig .tc .vmem S32x65536 .f32} (harg1 : arg1.IsWhole) (x1 : Vec F S32x65536 .f32) (o : ℕ)
    (inb : ∀ a, (![0, o] : Fin 2 → ℕ) a + (![32, 2048] : Fin 2 → ℕ) a ≤ S32x65536.size a) :
    View.readAt (Elt F) arg1.view (Rect.unit (s := S32x65536) ![0, o] ![32, 2048] inb).toLoadRect (harg1.unread x1) = cols x1 o :=
  load_D harg1 x1 o inb

attribute [local irreducible] scan multiReduction multiReductionI shapeCast broadcastTo broadcast select cmpf cmpi absf addf mulf subf divf addi shrui truncf sitofp extui constant Scalar.addi Scalar.muli Scf.iv ori andi View.readAt dots cols extractStridedSlice

section folds
variable (D : Vec F S32x65536 .f32) (P : Vec F S16384x128 .f32) (r x : FVec F S128x32 .f32) (k : ℕ)

/-- The first step of the residual. -/
theorem next_zero : next D P x = res D P x 1 := rfl

/-- The search as the body writes it. -/
theorem found_fold : scan (iota .tc S128x2048 32 [1] iota_S128x2048_d1_w32) (iota .tc S128x512 32 [1] iota_S128x512_d1_w32) r D (high P) (mid P) (low P)
    (broadcast S128x1 (FloatOps.ofBits .f32 0xBF800000#32), broadcast S128x1 65536#32, broadcast S128x128 (FloatOps.ofBits .f32 0x00000000#32),
      dots r (cols D 0), dots r (cols D 16384), dots r (cols D 32768), dots r (cols D 49152)) 8 = found D P r := rfl
/-- One step of the residual, by its number. -/
theorem next_res : next D P (res D P x k) = res D P x (k + 1) := rfl
/-- One step of the residual, from the search's parts. -/
theorem fold287 : k0_pay287 r k0_pay273 (found D P r).1 (found D P r).2.1 (found D P r).2.2.1 = next D P r := by
  unfold k0_pay287 next k0_pay327 signed k0_pay326 rowOf; rfl
/-- The same, as the later steps write it. -/
theorem fold300 : k0_pay300 k0_pay273 r (found D P r).1 (found D P r).2.1 (found D P r).2.2.1 = next D P r := by
  unfold k0_pay300 next k0_pay327 signed k0_pay326 rowOf; rfl
/-- The same. -/
theorem fold313 : k0_pay313 k0_pay273 r (found D P r).1 (found D P r).2.1 (found D P r).2.2.1 = next D P r := by
  unfold k0_pay313 next k0_pay327 signed k0_pay326 rowOf; rfl
/-- The same, from the row and the signed inner product. -/
theorem fold327 : k0_pay327 r (rowOf D P r) (signed D P r) = next D P r := rfl
/-- The same, from the row and its inner product. -/
theorem fold342 : k0_pay342 r (found D P r).1 (rowOf D P r) (k0_pay386 (rowOf D P r) r) k0_pay341 = next D P r := by
  unfold k0_pay342 next k0_pay327 signed k0_pay326 k0_pay386 k0_pay341 rowOf; rfl
/-- The same, from the row and its products. -/
theorem fold356 : k0_pay356 r (found D P r).1 (rowOf D P r) (mulf r (rowOf D P r)) = next D P r := by
  unfold k0_pay356 next k0_pay327 signed k0_pay326 rowOf; rfl
/-- The row, from its masked packed row. -/
theorem fold370 : k0_pay370 (k0_pay368 (F := F) k0_pay273 (found D P r).2.1 (found D P r).2.2.1) (k0_pay369 k0_pay273 (found D P r).2.1 (found D P r).2.2.1) = rowOf D P r := by
  unfold k0_pay370 k0_pay368 k0_pay369 rowOf; rfl
/-- One step of the residual, from the masked packed row. -/
theorem fold371 : k0_pay371 r (found D P r).1 (k0_pay368 (F := F) k0_pay273 (found D P r).2.1 (found D P r).2.2.1) (k0_pay369 k0_pay273 (found D P r).2.1 (found D P r).2.2.1) = next D P r := by
  unfold k0_pay371; rw [fold370]; unfold next k0_pay327 signed k0_pay326 rowOf; rfl
end folds

section values
variable (c : Dev nD) (arg0 : Memref sig .tc .vmem S128x32 .f32) (harg0 : arg0.IsWhole) (arg1 : Memref sig .tc .vmem S32x65536 .f32) (harg1 : arg1.IsWhole) (arg2 : Memref sig .tc .vmem S16384x128 .f32) (harg2 : arg2.IsWhole) (arg3 : Memref sig .tc .vmem S1x1 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S16384x128 .bf16) (harg6 : arg6.IsWhole)
  (x0 : Vec F S128x32 .f32) (x1 : Vec F S32x65536 .f32) (x2 : Vec F S16384x128 .f32)

/-- The first input as loaded. -/
theorem r_eq : body_run.sl.r c arg0 harg0 x0 = x0 := load_x harg0 x0 _

/-- An intermediate value of the body. -/
theorem r3_eq : body_run.sl.r_3 c arg0 harg0 arg1 harg1 arg2 harg2 arg4 harg4 arg5 harg5 arg6 harg6 x0 x1 x2 = (found x1 x2 x0).2.1 := by
  simp only [body_run.sl.r_3, body_run.sl.r_1, body_run.sl.r_2, r_eq, body_run.sl.cst_13, load_x_lit, load_x, next_zero x1 x2 x0, harg1.read_unread, harg2.read_unread, harg4.read_unread, harg5.read_unread, harg6.read_unread, body_run.sl.v2, body_run.sl.v3, load_D, load_D_lit, k0_pay274, k0_pay275, k0_pay276, k0_pay277, k0_pay278, k0_pay279, k0_pay280, k0_pay281, dots_eq, found_fold, next_res, Nat.reduceAdd]
  first | done | rfl

/-- An intermediate value of the body. -/
theorem r4_eq : body_run.sl.r_4 c arg0 harg0 arg1 harg1 arg2 harg2 arg4 harg4 arg5 harg5 arg6 harg6 x0 x1 x2 = rowOf x1 x2 x0 := by
  simp only [body_run.sl.r_4, body_run.sl.r_1, body_run.sl.r_2, r_eq, r3_eq, body_run.sl.cst_13, load_x_lit, load_x, next_zero x1 x2 x0, harg1.read_unread, harg2.read_unread, harg4.read_unread, harg5.read_unread, harg6.read_unread, body_run.sl.v2, body_run.sl.v3, load_D, load_D_lit, k0_pay274, k0_pay275, k0_pay276, k0_pay277, k0_pay278, k0_pay279, k0_pay280, k0_pay281, dots_eq, found_fold, next_res, Nat.reduceAdd]
  first | done | rfl

/-- An intermediate value of the body. -/
theorem r5_eq : body_run.sl.r_5 c arg0 harg0 arg1 harg1 arg2 harg2 arg4 harg4 arg5 harg5 arg6 harg6 x0 x1 x2 = res x1 x2 x0 1 := by
  simp only [body_run.sl.r_5, body_run.sl.r_1, body_run.sl.r_2, r_eq, r3_eq, r4_eq, body_run.sl.cst_13, load_x_lit, load_x, harg1.read_unread, harg2.read_unread, harg4.read_unread, harg5.read_unread, harg6.read_unread, body_run.sl.v2, body_run.sl.v3, load_D, load_D_lit, k0_pay274, k0_pay275, k0_pay276, k0_pay277, k0_pay278, k0_pay279, k0_pay280, k0_pay281, k0_pay288, k0_pay289, k0_pay290, k0_pay291, k0_pay292, k0_pay293, k0_pay294, dots_eq, found_fold, next_res, Nat.reduceAdd, fold287]
  first | done | rfl

/-- An intermediate value of the body. -/
theorem r7_eq : body_run.sl.r_7 c arg0 harg0 arg1 harg1 arg2 harg2 arg4 harg4 arg5 harg5 arg6 harg6 x0 x1 x2 = (found x1 x2 (res x1 x2 x0 1)).2.1 := by
  simp only [body_run.sl.r_7, body_run.sl.r_6, body_run.sl.r_1, body_run.sl.r_2, r_eq, r3_eq, r4_eq, r5_eq, body_run.sl.cst_13, load_x_lit, load_x, next_zero x1 x2 x0, harg1.read_unread, harg2.read_unread, harg4.read_unread, harg5.read_unread, harg6.read_unread, body_run.sl.v2, body_run.sl.v3, load_D, load_D_lit, k0_pay274, k0_pay275, k0_pay276, k0_pay277, k0_pay278, k0_pay279, k0_pay280, k0_pay281, k0_pay288, k0_pay289, k0_pay290, k0_pay291, k0_pay292, k0_pay293, k0_pay294, dots_eq, found_fold, next_res, Nat.reduceAdd, fold287]
  first | done | rfl

/-- An intermediate value of the body. -/
theorem r8_eq : body_run.sl.r_8 c arg0 harg0 arg1 harg1 arg2 harg2 arg4 harg4 arg5 harg5 arg6 harg6 x0 x1 x2 = rowOf x1 x2 (res x1 x2 x0 1) := by
  simp only [body_run.sl.r_8, body_run.sl.r_6, body_run.sl.r_1, body_run.sl.r_2, r_eq, r3_eq, r4_eq, r5_eq, r7_eq, body_run.sl.cst_13, load_x_lit, load_x, next_zero x1 x2 x0, harg1.read_unread, harg2.read_unread, harg4.read_unread, harg5.read_unread, harg6.read_unread, body_run.sl.v2, body_run.sl.v3, load_D, load_D_lit, k0_pay274, k0_pay275, k0_pay276, k0_pay277, k0_pay278, k0_pay279, k0_pay280, k0_pay281, k0_pay288, k0_pay289, k0_pay290, k0_pay291, k0_pay292, k0_pay293, k0_pay294, dots_eq, found_fold, next_res, Nat.reduceAdd, fold287]
  first | done | rfl

/-- An intermediate value of the body. -/
theorem r9_eq : body_run.sl.r_9 c arg0 harg0 arg1 harg1 arg2 harg2 arg4 harg4 arg5 harg5 arg6 harg6 x0 x1 x2 = res x1 x2 x0 2 := by
  simp only [body_run.sl.r_9, body_run.sl.r_6, body_run.sl.r_1, body_run.sl.r_2, r_eq, r3_eq, r4_eq, r5_eq, r7_eq, r8_eq, body_run.sl.cst_13, load_x_lit, load_x, next_zero x1 x2 x0, harg1.read_unread, harg2.read_unread, harg4.read_unread, harg5.read_unread, harg6.read_unread, body_run.sl.v2, body_run.sl.v3, load_D, load_D_lit, k0_pay274, k0_pay275, k0_pay276, k0_pay277, k0_pay278, k0_pay279, k0_pay280, k0_pay281, k0_pay288, k0_pay289, k0_pay290, k0_pay291, k0_pay292, k0_pay293, k0_pay294, dots_eq, found_fold, next_res, Nat.reduceAdd, fold287, fold300]
  first | done | rfl

/-- An intermediate value of the body. -/
theorem r10_eq : body_run.sl.r_10 c arg0 harg0 arg1 harg1 arg2 harg2 arg4 harg4 arg5 harg5 arg6 harg6 x0 x1 x2 = (found x1 x2 (res x1 x2 x0 2)).2.1 := by
  simp only [body_run.sl.r_10, r_eq, r3_eq, r4_eq, r5_eq, r7_eq, r8_eq, r9_eq, harg1.read_unread, harg2.read_unread, harg4.read_unread, harg5.read_unread, harg6.read_unread, body_run.sl.v2, body_run.sl.v3, load_D, load_D_lit, k0_pay301, k0_pay302, k0_pay303, k0_pay304, k0_pay305, k0_pay306, k0_pay307, dots_eq, found_fold, next_res, Nat.reduceAdd]
  first | done | rfl

/-- An intermediate value of the body. -/
theorem r11_eq : body_run.sl.r_11 c arg0 harg0 arg1 harg1 arg2 harg2 arg4 harg4 arg5 harg5 arg6 harg6 x0 x1 x2 = rowOf x1 x2 (res x1 x2 x0 2) := by
  simp only [body_run.sl.r_11, r_eq, r3_eq, r4_eq, r5_eq, r7_eq, r8_eq, r9_eq, r10_eq, harg1.read_unread, harg2.read_unread, harg4.read_unread, harg5.read_unread, harg6.read_unread, body_run.sl.v2, body_run.sl.v3, load_D, load_D_lit, k0_pay301, k0_pay302, k0_pay303, k0_pay304, k0_pay305, k0_pay306, k0_pay307, dots_eq, found_fold, next_res, Nat.reduceAdd]
  first | done | rfl

/-- An intermediate value of the body. -/
theorem r12_eq : body_run.sl.r_12 c arg0 harg0 arg1 harg1 arg2 harg2 arg4 harg4 arg5 harg5 arg6 harg6 x0 x1 x2 = res x1 x2 x0 3 := by
  simp only [body_run.sl.r_12, r_eq, r3_eq, r4_eq, r5_eq, r7_eq, r8_eq, r9_eq, r10_eq, r11_eq, harg1.read_unread, harg2.read_unread, harg4.read_unread, harg5.read_unread, harg6.read_unread, body_run.sl.v2, body_run.sl.v3, load_D, load_D_lit, k0_pay301, k0_pay302, k0_pay303, k0_pay304, k0_pay305, k0_pay306, k0_pay307, dots_eq, found_fold, next_res, Nat.reduceAdd, fold313]
  first | done | rfl

/-- An intermediate value of the body. -/
theorem r13_eq : body_run.sl.r_13 c arg0 harg0 arg1 harg1 arg2 harg2 arg4 harg4 arg5 harg5 arg6 harg6 x0 x1 x2 = (found x1 x2 (res x1 x2 x0 3)).2.1 := by
  simp only [body_run.sl.r_13, r_eq, r3_eq, r4_eq, r5_eq, r7_eq, r8_eq, r9_eq, r10_eq, r11_eq, r12_eq, harg1.read_unread, harg2.read_unread, harg4.read_unread, harg5.read_unread, harg6.read_unread, body_run.sl.v2, body_run.sl.v3, load_D, load_D_lit, k0_pay314, k0_pay315, k0_pay316, k0_pay317, k0_pay318, k0_pay319, k0_pay320, dots_eq, found_fold, next_res, Nat.reduceAdd]
  first | done | rfl

/-- An intermediate value of the body. -/
theorem r14_eq : body_run.sl.r_14 c arg0 harg0 arg1 harg1 arg2 harg2 arg4 harg4 arg5 harg5 arg6 harg6 x0 x1 x2 = rowOf x1 x2 (res x1 x2 x0 3) := by
  simp only [body_run.sl.r_14, r_eq, r3_eq, r4_eq, r5_eq, r7_eq, r8_eq, r9_eq, r10_eq, r11_eq, r12_eq, r13_eq, harg1.read_unread, harg2.read_unread, harg4.read_unread, harg5.read_unread, harg6.read_unread, body_run.sl.v2, body_run.sl.v3, load_D, load_D_lit, k0_pay314, k0_pay315, k0_pay316, k0_pay317, k0_pay318, k0_pay319, k0_pay320, dots_eq, found_fold, next_res, Nat.reduceAdd]
  first | done | rfl

/-- An intermediate value of the body. -/
theorem r15_eq : body_run.sl.r_15 c arg0 harg0 arg1 harg1 arg2 harg2 arg4 harg4 arg5 harg5 arg6 harg6 x0 x1 x2 = signed x1 x2 (res x1 x2 x0 3) := by
  simp only [body_run.sl.r_15, r_eq, r3_eq, r4_eq, r5_eq, r7_eq, r8_eq, r9_eq, r10_eq, r11_eq, r12_eq, r13_eq, r14_eq, harg1.read_unread, harg2.read_unread, harg4.read_unread, harg5.read_unread, harg6.read_unread, body_run.sl.v2, body_run.sl.v3, load_D, load_D_lit, k0_pay314, k0_pay315, k0_pay316, k0_pay317, k0_pay318, k0_pay319, k0_pay320, dots_eq, found_fold, next_res, Nat.reduceAdd, fold313]
  first | done | rfl

/-- An intermediate value of the body. -/
theorem r16_eq : body_run.sl.r_16 c arg0 harg0 arg1 harg1 arg2 harg2 arg4 harg4 arg5 harg5 arg6 harg6 x0 x1 x2 = res x1 x2 x0 4 := by
  simp only [body_run.sl.r_16, r_eq, r3_eq, r4_eq, r5_eq, r7_eq, r8_eq, r9_eq, r10_eq, r11_eq, r12_eq, r13_eq, r14_eq, r15_eq, next_res, Nat.reduceAdd, fold327]
  first | done | rfl

/-- An intermediate value of the body. -/
theorem r17_eq : body_run.sl.r_17 c arg0 harg0 arg1 harg1 arg2 harg2 arg4 harg4 arg5 harg5 arg6 harg6 x0 x1 x2 = (found x1 x2 (res x1 x2 x0 4)).1 := by
  simp only [body_run.sl.r_17, r_eq, r3_eq, r4_eq, r5_eq, r7_eq, r8_eq, r9_eq, r10_eq, r11_eq, r12_eq, r13_eq, r14_eq, r15_eq, r16_eq, harg1.read_unread, harg2.read_unread, harg4.read_unread, harg5.read_unread, harg6.read_unread, body_run.sl.v2, body_run.sl.v3, load_D, load_D_lit, k0_pay328, k0_pay329, k0_pay330, k0_pay331, k0_pay332, k0_pay333, k0_pay334, dots_eq, found_fold, next_res, Nat.reduceAdd, fold327]
  first | done | rfl

/-- An intermediate value of the body. -/
theorem r18_eq : body_run.sl.r_18 c arg0 harg0 arg1 harg1 arg2 harg2 arg4 harg4 arg5 harg5 arg6 harg6 x0 x1 x2 = (found x1 x2 (res x1 x2 x0 4)).2.1 := by
  simp only [body_run.sl.r_18, r_eq, r3_eq, r4_eq, r5_eq, r7_eq, r8_eq, r9_eq, r10_eq, r11_eq, r12_eq, r13_eq, r14_eq, r15_eq, r16_eq, r17_eq, harg1.read_unread, harg2.read_unread, harg4.read_unread, harg5.read_unread, harg6.read_unread, body_run.sl.v2, body_run.sl.v3, load_D, load_D_lit, k0_pay328, k0_pay329, k0_pay330, k0_pay331, k0_pay332, k0_pay333, k0_pay334, dots_eq, found_fold, next_res, Nat.reduceAdd, fold327]
  first | done | rfl

/-- An intermediate value of the body. -/
theorem r19_eq : body_run.sl.r_19 c arg0 harg0 arg1 harg1 arg2 harg2 arg4 harg4 arg5 harg5 arg6 harg6 x0 x1 x2 = rowOf x1 x2 (res x1 x2 x0 4) := by
  simp only [body_run.sl.r_19, r_eq, r3_eq, r4_eq, r5_eq, r7_eq, r8_eq, r9_eq, r10_eq, r11_eq, r12_eq, r13_eq, r14_eq, r15_eq, r16_eq, r17_eq, r18_eq, harg1.read_unread, harg2.read_unread, harg4.read_unread, harg5.read_unread, harg6.read_unread, body_run.sl.v2, body_run.sl.v3, load_D, load_D_lit, k0_pay328, k0_pay329, k0_pay330, k0_pay331, k0_pay332, k0_pay333, k0_pay334, dots_eq, found_fold, next_res, Nat.reduceAdd, fold327]
  first | done | rfl

/-- An intermediate value of the body. -/
theorem r20_eq : body_run.sl.r_20 c arg0 harg0 arg1 harg1 arg2 harg2 arg4 harg4 arg5 harg5 arg6 harg6 x0 x1 x2 = k0_pay386 (rowOf x1 x2 (res x1 x2 x0 4)) (res x1 x2 x0 4) := by
  simp only [body_run.sl.r_20, k0_pay340, r_eq, r3_eq, r4_eq, r5_eq, r7_eq, r8_eq, r9_eq, r10_eq, r11_eq, r12_eq, r13_eq, r14_eq, r15_eq, r16_eq, r17_eq, r18_eq, r19_eq, harg1.read_unread, harg2.read_unread, harg4.read_unread, harg5.read_unread, harg6.read_unread, body_run.sl.v2, body_run.sl.v3, load_D, load_D_lit, k0_pay328, k0_pay329, k0_pay330, k0_pay331, k0_pay332, k0_pay333, k0_pay334, dots_eq, found_fold, next_res, Nat.reduceAdd, fold327]
  first | done | rfl

/-- An intermediate value of the body. -/
theorem r21_eq : body_run.sl.r_21 c arg0 harg0 arg1 harg1 arg2 harg2 arg4 harg4 arg5 harg5 arg6 harg6 x0 x1 x2 = res x1 x2 x0 5 := by
  simp only [body_run.sl.r_21, r_eq, r3_eq, r4_eq, r5_eq, r7_eq, r8_eq, r9_eq, r10_eq, r11_eq, r12_eq, r13_eq, r14_eq, r15_eq, r16_eq, r17_eq, r18_eq, r19_eq, r20_eq, next_res, Nat.reduceAdd, fold342]
  first | done | rfl

/-- An intermediate value of the body. -/
theorem r22_eq : body_run.sl.r_22 c arg0 harg0 arg1 harg1 arg2 harg2 arg4 harg4 arg5 harg5 arg6 harg6 x0 x1 x2 = (found x1 x2 (res x1 x2 x0 5)).1 := by
  simp only [body_run.sl.r_22, r_eq, r3_eq, r4_eq, r5_eq, r7_eq, r8_eq, r9_eq, r10_eq, r11_eq, r12_eq, r13_eq, r14_eq, r15_eq, r16_eq, r17_eq, r18_eq, r19_eq, r20_eq, r21_eq, harg1.read_unread, harg2.read_unread, harg4.read_unread, harg5.read_unread, harg6.read_unread, body_run.sl.v2, body_run.sl.v3, load_D, load_D_lit, k0_pay343, k0_pay344, k0_pay345, k0_pay346, k0_pay347, k0_pay348, k0_pay349, dots_eq, found_fold, next_res, Nat.reduceAdd, fold342]
  first | done | rfl

/-- An intermediate value of the body. -/
theorem r23_eq : body_run.sl.r_23 c arg0 harg0 arg1 harg1 arg2 harg2 arg4 harg4 arg5 harg5 arg6 harg6 x0 x1 x2 = (found x1 x2 (res x1 x2 x0 5)).2.1 := by
  simp only [body_run.sl.r_23, r_eq, r3_eq, r4_eq, r5_eq, r7_eq, r8_eq, r9_eq, r10_eq, r11_eq, r12_eq, r13_eq, r14_eq, r15_eq, r16_eq, r17_eq, r18_eq, r19_eq, r20_eq, r21_eq, r22_eq, harg1.read_unread, harg2.read_unread, harg4.read_unread, harg5.read_unread, harg6.read_unread, body_run.sl.v2, body_run.sl.v3, load_D, load_D_lit, k0_pay343, k0_pay344, k0_pay345, k0_pay346, k0_pay347, k0_pay348, k0_pay349, dots_eq, found_fold, next_res, Nat.reduceAdd, fold342]
  first | done | rfl

/-- An intermediate value of the body. -/
theorem r24_eq : body_run.sl.r_24 c arg0 harg0 arg1 harg1 arg2 harg2 arg4 harg4 arg5 harg5 arg6 harg6 x0 x1 x2 = rowOf x1 x2 (res x1 x2 x0 5) := by
  simp only [body_run.sl.r_24, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, harg1.read_unread, harg2.read_unread, harg4.read_unread, harg5.read_unread, harg6.read_unread, body_run.sl.v2, body_run.sl.v3, load_D, load_D_lit, k0_pay343, k0_pay344, k0_pay345, k0_pay346, k0_pay347, k0_pay348, k0_pay349, dots_eq, found_fold, next_res, Nat.reduceAdd, fold342]
  first | done | rfl

/-- An intermediate value of the body. -/
theorem r25_eq : body_run.sl.r_25 c arg0 harg0 arg1 harg1 arg2 harg2 arg4 harg4 arg5 harg5 arg6 harg6 x0 x1 x2 = mulf (res x1 x2 x0 5) (rowOf x1 x2 (res x1 x2 x0 5)) := by
  simp only [body_run.sl.r_25, k0_pay355, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, harg1.read_unread, harg2.read_unread, harg4.read_unread, harg5.read_unread, harg6.read_unread, body_run.sl.v2, body_run.sl.v3, load_D, load_D_lit, k0_pay343, k0_pay344, k0_pay345, k0_pay346, k0_pay347, k0_pay348, k0_pay349, dots_eq, found_fold, next_res, Nat.reduceAdd, fold342]
  first | done | rfl

/-- An intermediate value of the body. -/
theorem r26_eq : body_run.sl.r_26 c arg0 harg0 arg1 harg1 arg2 harg2 arg4 harg4 arg5 harg5 arg6 harg6 x0 x1 x2 = res x1 x2 x0 6 := by
  simp only [body_run.sl.r_26, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, next_res, Nat.reduceAdd, fold356]
  first | done | rfl

/-- An intermediate value of the body. -/
theorem r27_eq : body_run.sl.r_27 c arg0 harg0 arg1 harg1 arg2 harg2 arg4 harg4 arg5 harg5 arg6 harg6 x0 x1 x2 = (found x1 x2 (res x1 x2 x0 6)).1 := by
  simp only [body_run.sl.r_27, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, harg1.read_unread, harg2.read_unread, harg4.read_unread, harg5.read_unread, harg6.read_unread, body_run.sl.v2, body_run.sl.v3, load_D, load_D_lit, k0_pay357, k0_pay358, k0_pay359, k0_pay360, k0_pay361, k0_pay362, k0_pay363, dots_eq, found_fold, next_res, Nat.reduceAdd, fold356]
  first | done | rfl

/-- An intermediate value of the body. -/
theorem r28_eq : body_run.sl.r_28 c arg0 harg0 arg1 harg1 arg2 harg2 arg4 harg4 arg5 harg5 arg6 harg6 x0 x1 x2 = (found x1 x2 (res x1 x2 x0 6)).2.1 := by
  simp only [body_run.sl.r_28, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, harg1.read_unread, harg2.read_unread, harg4.read_unread, harg5.read_unread, harg6.read_unread, body_run.sl.v2, body_run.sl.v3, load_D, load_D_lit, k0_pay357, k0_pay358, k0_pay359, k0_pay360, k0_pay361, k0_pay362, k0_pay363, dots_eq, found_fold, next_res, Nat.reduceAdd, fold356]
  first | done | rfl

/-- An intermediate value of the body. -/
theorem r29_eq : body_run.sl.r_29 c arg0 harg0 arg1 harg1 arg2 harg2 arg4 harg4 arg5 harg5 arg6 harg6 x0 x1 x2 = k0_pay368 (F := F) k0_pay273 (found x1 x2 (res x1 x2 x0 6)).2.1 (found x1 x2 (res x1 x2 x0 6)).2.2.1 := by
  simp only [body_run.sl.r_29, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, harg1.read_unread, harg2.read_unread, harg4.read_unread, harg5.read_unread, harg6.read_unread, body_run.sl.v2, body_run.sl.v3, load_D, load_D_lit, k0_pay357, k0_pay358, k0_pay359, k0_pay360, k0_pay361, k0_pay362, k0_pay363, dots_eq, found_fold, next_res, Nat.reduceAdd, fold356]
  first | done | rfl

/-- An intermediate value of the body. -/
theorem r30_eq : body_run.sl.r_30 c arg0 harg0 arg1 harg1 arg2 harg2 arg4 harg4 arg5 harg5 arg6 harg6 x0 x1 x2 = k0_pay369 (F := F) k0_pay273 (found x1 x2 (res x1 x2 x0 6)).2.1 (found x1 x2 (res x1 x2 x0 6)).2.2.1 := by
  simp only [body_run.sl.r_30, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, harg1.read_unread, harg2.read_unread, harg4.read_unread, harg5.read_unread, harg6.read_unread, body_run.sl.v2, body_run.sl.v3, load_D, load_D_lit, k0_pay357, k0_pay358, k0_pay359, k0_pay360, k0_pay361, k0_pay362, k0_pay363, dots_eq, found_fold, next_res, Nat.reduceAdd, fold356]
  first | done | rfl

/-- An intermediate value of the body. -/
theorem r31_eq : body_run.sl.r_31 c arg0 harg0 arg1 harg1 arg2 harg2 arg4 harg4 arg5 harg5 arg6 harg6 x0 x1 x2 = rowOf x1 x2 (res x1 x2 x0 6) := by
  simp only [body_run.sl.r_31, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, next_res, Nat.reduceAdd, fold370]
  first | done | rfl

/-- An intermediate value of the body. -/
theorem r32_eq : body_run.sl.r_32 c arg0 harg0 arg1 harg1 arg2 harg2 arg4 harg4 arg5 harg5 arg6 harg6 x0 x1 x2 = res x1 x2 x0 7 := by
  simp only [body_run.sl.r_32, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, next_res, Nat.reduceAdd, fold371]
  first | done | rfl

/-- An intermediate value of the body. -/
theorem r33_eq : body_run.sl.r_33 c arg0 harg0 arg1 harg1 arg2 harg2 arg4 harg4 arg5 harg5 arg6 harg6 x0 x1 x2 = (found x1 x2 (res x1 x2 x0 7)).1 := by
  simp only [body_run.sl.r_33, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, r32_eq, harg1.read_unread, harg2.read_unread, harg4.read_unread, harg5.read_unread, harg6.read_unread, body_run.sl.v2, body_run.sl.v3, load_D, load_D_lit, k0_pay372, k0_pay373, k0_pay374, k0_pay375, k0_pay376, k0_pay377, k0_pay378, dots_eq, found_fold, next_res, Nat.reduceAdd, fold371]
  first | done | rfl

/-- An intermediate value of the body. -/
theorem r34_eq : body_run.sl.r_34 c arg0 harg0 arg1 harg1 arg2 harg2 arg4 harg4 arg5 harg5 arg6 harg6 x0 x1 x2 = (found x1 x2 (res x1 x2 x0 7)).2.1 := by
  simp only [body_run.sl.r_34, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, r32_eq, r33_eq, harg1.read_unread, harg2.read_unread, harg4.read_unread, harg5.read_unread, harg6.read_unread, body_run.sl.v2, body_run.sl.v3, load_D, load_D_lit, k0_pay372, k0_pay373, k0_pay374, k0_pay375, k0_pay376, k0_pay377, k0_pay378, dots_eq, found_fold, next_res, Nat.reduceAdd, fold371]
  first | done | rfl

/-- An intermediate value of the body. -/
theorem r35_eq : body_run.sl.r_35 c arg0 harg0 arg1 harg1 arg2 harg2 arg4 harg4 arg5 harg5 arg6 harg6 x0 x1 x2 = (found x1 x2 (res x1 x2 x0 7)).2.2.1 := by
  simp only [body_run.sl.r_35, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, r32_eq, r33_eq, r34_eq, harg1.read_unread, harg2.read_unread, harg4.read_unread, harg5.read_unread, harg6.read_unread, body_run.sl.v2, body_run.sl.v3, load_D, load_D_lit, k0_pay372, k0_pay373, k0_pay374, k0_pay375, k0_pay376, k0_pay377, k0_pay378, dots_eq, found_fold, next_res, Nat.reduceAdd, fold371]
  first | done | rfl

/-- An intermediate value of the body. -/
theorem r36_eq : body_run.sl.r_36 c arg0 harg0 arg1 harg1 arg2 harg2 arg4 harg4 arg5 harg5 arg6 harg6 x0 x1 x2 = k0_pay383 k0_pay273 (found x1 x2 (res x1 x2 x0 7)).2.1 := by
  simp only [body_run.sl.r_36, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, r32_eq, r33_eq, r34_eq, r35_eq, harg1.read_unread, harg2.read_unread, harg4.read_unread, harg5.read_unread, harg6.read_unread, body_run.sl.v2, body_run.sl.v3, load_D, load_D_lit, k0_pay372, k0_pay373, k0_pay374, k0_pay375, k0_pay376, k0_pay377, k0_pay378, dots_eq, found_fold, next_res, Nat.reduceAdd, fold371]
  first | done | rfl

/-- An intermediate value of the body. -/
theorem r37_eq : body_run.sl.r_37 c arg0 harg0 arg1 harg1 arg2 harg2 arg4 harg4 arg5 harg5 arg6 harg6 x0 x1 x2 = rowOf x1 x2 (res x1 x2 x0 7) := by
  simp only [body_run.sl.r_37, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, r32_eq, r33_eq, r34_eq, r35_eq, r36_eq, body_run.sl.cst_190, next_res, Nat.reduceAdd]
  first | done | rfl

/-- An intermediate value of the body. -/
theorem r38_eq : body_run.sl.r_38 c arg0 harg0 arg1 harg1 arg2 harg2 arg4 harg4 arg5 harg5 arg6 harg6 x0 x1 x2 = signed x1 x2 (res x1 x2 x0 7) := by
  simp only [body_run.sl.r_38, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, r32_eq, r33_eq, r34_eq, r35_eq, r36_eq, r37_eq, body_run.sl.cst_190, next_res, Nat.reduceAdd]
  first | done | rfl

/-- An intermediate value of the body. -/
theorem r39_eq : body_run.sl.r_39 c arg0 harg0 arg1 harg1 arg2 harg2 arg4 harg4 arg5 harg5 arg6 harg6 x0 x1 x2 = coef x1 x2 x0 0 := by
  simp only [body_run.sl.r_39, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, r32_eq, r33_eq, r34_eq, r35_eq, r36_eq, r37_eq, r38_eq, next_res, Nat.reduceAdd]
  first | done | rfl

/-- An intermediate value of the body. -/
theorem r40_eq : body_run.sl.r_40 c arg0 harg0 arg1 harg1 arg2 harg2 arg4 harg4 arg5 harg5 arg6 harg6 x0 x1 x2 = coef x1 x2 x0 1 := by
  simp only [body_run.sl.r_40, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, r32_eq, r33_eq, r34_eq, r35_eq, r36_eq, r37_eq, r38_eq, r39_eq, next_res, Nat.reduceAdd]
  first | done | rfl

/-- An intermediate value of the body. -/
theorem r41_eq : body_run.sl.r_41 c arg0 harg0 arg1 harg1 arg2 harg2 arg4 harg4 arg5 harg5 arg6 harg6 x0 x1 x2 = coef x1 x2 x0 2 := by
  simp only [body_run.sl.r_41, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, r32_eq, r33_eq, r34_eq, r35_eq, r36_eq, r37_eq, r38_eq, r39_eq, r40_eq, next_res, Nat.reduceAdd]
  first | done | rfl

/-- An intermediate value of the body. -/
theorem r42_eq : body_run.sl.r_42 c arg0 harg0 arg1 harg1 arg2 harg2 arg4 harg4 arg5 harg5 arg6 harg6 x0 x1 x2 = coef x1 x2 x0 3 := by
  simp only [body_run.sl.r_42, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, r32_eq, r33_eq, r34_eq, r35_eq, r36_eq, r37_eq, r38_eq, r39_eq, r40_eq, r41_eq, next_res, Nat.reduceAdd]
  first | done | rfl

/-- An intermediate value of the body. -/
theorem r43_eq : body_run.sl.r_43 c arg0 harg0 arg1 harg1 arg2 harg2 arg4 harg4 arg5 harg5 arg6 harg6 x0 x1 x2 = coef x1 x2 x0 4 := by
  simp only [body_run.sl.r_43, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, r32_eq, r33_eq, r34_eq, r35_eq, r36_eq, r37_eq, r38_eq, r39_eq, r40_eq, r41_eq, r42_eq, next_res, Nat.reduceAdd]
  first | done | rfl

/-- An intermediate value of the body. -/
theorem r44_eq : body_run.sl.r_44 c arg0 harg0 arg1 harg1 arg2 harg2 arg4 harg4 arg5 harg5 arg6 harg6 x0 x1 x2 = coef x1 x2 x0 5 := by
  simp only [body_run.sl.r_44, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, r32_eq, r33_eq, r34_eq, r35_eq, r36_eq, r37_eq, r38_eq, r39_eq, r40_eq, r41_eq, r42_eq, r43_eq, next_res, Nat.reduceAdd]
  first | done | rfl

/-- An intermediate value of the body. -/
theorem r45_eq : body_run.sl.r_45 c arg0 harg0 arg1 harg1 arg2 harg2 arg4 harg4 arg5 harg5 arg6 harg6 x0 x1 x2 = coef x1 x2 x0 6 := by
  simp only [body_run.sl.r_45, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, r32_eq, r33_eq, r34_eq, r35_eq, r36_eq, r37_eq, r38_eq, r39_eq, r40_eq, r41_eq, r42_eq, r43_eq, r44_eq, next_res, Nat.reduceAdd]
  first | done | rfl

/-- The stored value is the closed form. -/
theorem stored_eq : k0_pay1 (body_run.sl.r_52 c arg0 harg0 arg1 harg1 arg2 harg2 arg4 harg4 arg5 harg5 arg6 harg6 x0 x1 x2) (body_run.sl.r_53 c arg0 harg0 arg1 harg1 arg2 harg2 arg4 harg4 arg5 harg5 arg6 harg6 x0 x1 x2) = out x0 x1 x2 := by
  simp only [body_run.sl.r_52, body_run.sl.r_53, body_run.sl.r_51, body_run.sl.r_50, body_run.sl.r_49, body_run.sl.r_48, body_run.sl.r_47, body_run.sl.r_46, r_eq, r3_eq, r4_eq, r5_eq, r7_eq, r8_eq, r9_eq, r10_eq, r11_eq, r12_eq, r13_eq, r14_eq, r15_eq, r16_eq, r17_eq, r18_eq, r19_eq, r20_eq, r21_eq, r22_eq, r23_eq, r24_eq, r25_eq, r26_eq, r27_eq, r28_eq, r29_eq, r30_eq, r31_eq, r32_eq, r33_eq, r34_eq, r35_eq, r36_eq, r37_eq, r38_eq, r39_eq, r40_eq, r41_eq, r42_eq, r43_eq, r44_eq, r45_eq]
  unfold out loss
  rfl
end values

section final
variable (m : (ℓ : Loc nD τ sig) → Buf (Elt F) ℓ) (c : Dev nD)

/-- The result's buffer after the grid point holds the closed form of the inputs' blocks. -/
theorem resultAt_eq (t : Fin cfg0.N) : resultAt m c t = out (iblk m c 0 t) (iblk m c 1 t) (iblk m c 2 t) := by
  funext y
  unfold resultAt
  refine View.read_writes_apply_of_pieces VO0_3 _ (out (iblk m c 0 t) (iblk m c 1 t) (iblk m c 2 t)) _ ?_ y (result_cover m c t y)
  intro pc hpc x
  unfold result body_run at hpc
  obtain rfl := List.mem_singleton.1 hpc
  refine (congrFun (stored_eq c (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (iblk m c 2 t)) x).trans ?_
  exact congrArg _ (idx_one _ _)
end final
end Cert.KernelIdeal.Pursuit
-- ==== Proof.E.Steps.lean ====
module
public import Idealize.ShloMosaic.PureOps.Ideal

@[expose] public section

noncomputable section

/-! Greedy matching pursuit of one sample over the extended reals: the kernel's steps and the reference's. -/

namespace Cert.Pursuit
open Finset

/-- An infinite value. -/
def Big (v : EReal) : Prop := v = ⊤ ∨ v = ⊥

/-- A magnitude. -/
def mag (v : EReal) : EReal := max v (-v)

/-- A value taken apart in three and put together again, as the kernel reads a row. -/
def whole (v : EReal) : EReal := v + (v - v) + ((v - v) - (v - v))

/-- Adding to an infinite value leaves it infinite. -/
theorem Big.add {a : EReal} (h : Big a) (b : EReal) : Big (a + b) := by
  rcases h with rfl | rfl
  · induction b with
    | bot => right; simp
    | coe x => left; simp
    | top => left; simp
  · right; simp

/-- So does adding it to another. -/
theorem Big.add_left {a : EReal} (h : Big a) (b : EReal) : Big (b + a) := add_comm a b ▸ h.add b

/-- The opposite of an infinite value is infinite. -/
theorem Big.neg {a : EReal} (h : Big a) : Big (-a) := by
  rcases h with rfl | rfl
  · right; simp
  · left; simp

/-- Subtracting from an infinite value leaves it infinite. -/
theorem Big.sub {a : EReal} (h : Big a) (b : EReal) : Big (a - b) := sub_eq_add_neg a b ▸ h.add (-b)

/-- So does subtracting it from another. -/
theorem Big.sub_left {a : EReal} (h : Big a) (b : EReal) : Big (b - a) := sub_eq_add_neg b a ▸ h.neg.add_left b

/-- A product of an infinite value and one that is not zero is infinite. -/
theorem Big.mul {a b : EReal} (ha : a ≠ 0) (hb : Big b) : Big (a * b) := by
  rcases hb with rfl | rfl
  · rcases lt_or_gt_of_ne ha with h | h
    · right; exact EReal.mul_top_of_neg h
    · left; exact EReal.mul_top_of_pos h
  · rcases lt_or_gt_of_ne ha with h | h
    · left; exact EReal.mul_bot_of_neg h
    · right; exact EReal.mul_bot_of_pos h

/-- An infinite value is not zero. -/
theorem Big.ne_zero {a : EReal} (h : Big a) : a ≠ 0 := by
  rcases h with rfl | rfl
  · exact EReal.top_ne_zero
  · exact EReal.bot_ne_zero

/-- Its magnitude is the largest. -/
theorem Big.mag_eq {a : EReal} (h : Big a) : mag a = ⊤ := by
  rcases h with rfl | rfl <;> simp [mag]

/-- Its square is the largest. -/
theorem Big.sq {a : EReal} (h : Big a) : a * a = ⊤ := by
  rcases h with rfl | rfl <;> simp

/-- A sum with an infinite term is infinite. -/
theorem Big.sum {T : Type} [DecidableEq T] {s : Finset T} {f : T → EReal} {t : T} (ht : t ∈ s) (h : Big (f t)) : Big (∑ i ∈ s, f i) := by
  rw [← add_sum_erase s f ht]
  exact h.add _

/-- A finite value is its own whole. -/
theorem whole_eq {v : EReal} (h : ¬ Big v) : whole v = v := by
  induction v with
  | bot => exact absurd (Or.inr rfl) h
  | top => exact absurd (Or.inl rfl) h
  | coe x => simp [whole, ← EReal.coe_sub]

/-- An infinite value's whole is infinite. -/
theorem whole_big {v : EReal} (h : Big v) : Big (whole v) := (h.add _).add _

/-- A magnitude is not negative. -/
theorem mag_nonneg (v : EReal) : 0 ≤ mag v := by
  rcases le_total 0 v with h | h
  · exact le_max_of_le_left h
  · exact le_max_of_le_right (by simpa using h)

/-- Only zero has no magnitude. -/
theorem mag_eq_zero {v : EReal} (h : mag v = 0) : v = 0 := by
  have h1 : v ≤ 0 := h ▸ le_max_left v (-v)
  have h2 : -v ≤ 0 := h ▸ le_max_right v (-v)
  exact le_antisymm h1 (by simpa using h2)

/-- A value that is not negative is its magnitude. -/
theorem mag_of_nonneg {v : EReal} (h : 0 ≤ v) : mag v = v := max_eq_left ((by simpa using h : -v ≤ 0).trans h)

/-- A negative value is its magnitude's opposite. -/
theorem mag_of_neg {v : EReal} (h : ¬ 0 ≤ v) : 0 - mag v = v := by
  have h' : v ≤ 0 := (not_le.1 h).le
  rw [mag, max_eq_right (h'.trans (by simpa using h')), zero_sub, neg_neg]

/-- A square is not negative. -/
theorem sq_nonneg' (v : EReal) : 0 ≤ v * v := by
  rcases le_total 0 v with h | h
  · exact EReal.mul_nonneg h h
  · rw [← neg_mul_neg]; exact EReal.mul_nonneg (by simpa using h) (by simpa using h)

section dots
variable {J T : Type} [Fintype T] [DecidableEq T]

/-- An inner product. -/
def dot (r : T → EReal) (D : J → T → EReal) (j : J) : EReal := ∑ t, r t * D j t

/-- The rows as the kernel reads them. -/
def wholes (D : J → T → EReal) : J → T → EReal := fun j t => whole (D j t)

variable {r : T → EReal} {D : J → T → EReal} {j : J}

/-- A finite inner product is the same with the row as read: an infinite entry meets a zero. -/
theorem dot_wholes (h : ¬ Big (dot r D j)) : dot r (wholes D) j = dot r D j := by
  refine sum_congr rfl fun t _ => ?_
  by_cases hb : Big (D j t)
  · have hr : r t = 0 := by
      by_contra hr
      exact h (Big.sum (f := fun t => r t * D j t) (mem_univ t) (Big.mul hr hb))
    rw [hr, zero_mul, zero_mul]
  · exact congrArg (r t * ·) (whole_eq hb)

/-- A row read as it is, is itself. -/
theorem dot_wholes_of (h : ∀ t, ¬ Big (D j t)) : dot r (wholes D) j = dot r D j :=
  sum_congr rfl fun t _ => congrArg (r t * ·) (whole_eq (h t))

end dots

section pursuit
variable {J T : Type} [Fintype J] [DecidableEq J] [Fintype T] [DecidableEq T]
  (best : (J → EReal) → J) (D : J → T → EReal) (x : T → EReal)

/-- The row chosen for a residual. -/
def sel (r : T → EReal) : J := best (dot r D)

/-- The kernel's coefficient of the chosen row: the largest magnitude, with the sign of a second product. -/
def kval (r : T → EReal) : EReal :=
  if 0 ≤ dot r (wholes D) (sel best D r) then mag (dot r D (sel best D r)) else 0 - mag (dot r D (sel best D r))

/-- The kernel's step. -/
def knext (r : T → EReal) : T → EReal := fun t => r t - kval best D r * wholes D (sel best D r) t

/-- The reference's step. -/
def rnext (r : T → EReal) : T → EReal := fun t => r t - dot r D (sel best D r) * D (sel best D r) t

/-- The kernel's residual before step `k`. -/
def kres : ℕ → T → EReal
  | 0 => x
  | k + 1 => knext best D (kres k)

/-- The reference's residual before step `k`. -/
def rres : ℕ → T → EReal
  | 0 => x
  | k + 1 => rnext best D (rres k)

/-- The kernel's coefficient of step `k`. -/
def kcoef (k : ℕ) : EReal :=
  if k = 7 then kval best D (kres best D x 7) else dot (kres best D x 7) (wholes D) (sel best D (kres best D x k))

/-- One, but zero where step `k` chose a row chosen before. -/
def fresh (p : ℕ → J) (k : ℕ) : EReal := if ∃ j < k, p k = p j then 0 else 1

/-- The kernel's reconstruction. -/
def krec (t : T) : EReal := ∑ k ∈ range 8, fresh (fun k => sel best D (kres best D x k)) k * kcoef best D x k
  * wholes D (sel best D (kres best D x k)) t

/-- The kernel's sum of magnitudes. -/
def kone : EReal := ∑ k ∈ range 8, fresh (fun k => sel best D (kres best D x k)) k * mag (kcoef best D x k)

open Classical in
/-- The reference's sparse coefficients. -/
def rcoef (j : J) : EReal := if ∃ k < 8, sel best D (rres best D x k) = j then dot (rres best D x 7) D j else 0

/-- The reference's reconstruction. -/
def rrec (t : T) : EReal := ∑ j, rcoef best D x j * D j t

/-- The reference's sum of magnitudes. -/
def rone : EReal := ∑ j, mag (rcoef best D x j)

/-- Step `k` meets no infinity: there is nothing left, or the chosen row is finite. -/
def Calm (r : T → EReal) : Prop := dot r D (sel best D r) = 0 ∨ ∀ t, ¬ Big (D (sel best D r) t)

variable {best D x}

/-- In a calm step the kernel's coefficient is the inner product. -/
theorem kval_eq {r : T → EReal} (h : Calm best D r) : kval best D r = dot r D (sel best D r) := by
  rcases h with h | h
  · rw [kval, h]; simp [mag]
  · rw [kval, dot_wholes_of h]
    split
    · exact mag_of_nonneg ‹_›
    · exact mag_of_neg ‹_›

/-- A calm step is the same in both. -/
theorem knext_eq {r : T → EReal} (h : Calm best D r) : knext best D r = rnext best D r := by
  funext t
  rw [knext, rnext, kval_eq h]
  rcases h with h | h
  · rw [h, zero_mul, zero_mul]
  · rw [wholes, whole_eq (h t)]

/-- Calm steps leave the same residual in both. -/
theorem kres_eq {n : ℕ} (h : ∀ k < n, Calm best D (rres best D x k)) : kres best D x n = rres best D x n := by
  induction n with
  | zero => rfl
  | succ n ih =>
    rw [kres, rres, ih fun k hk => h k (hk.trans n.lt_succ_self)]
    exact knext_eq (h n n.lt_succ_self)

/-- With nothing left a step changes nothing. -/
theorem rres_stay {k : ℕ} (h : dot (rres best D x k) D (sel best D (rres best D x k)) = 0) (i : ℕ) : rres best D x (k + i) = rres best D x k := by
  induction i with
  | zero => rfl
  | succ i ih =>
    show rnext best D (rres best D x (k + i)) = _
    rw [ih]
    funext t
    rw [rnext, h, zero_mul, sub_zero]

/-- The kernel's coefficient is not zero where there is something left. -/
theorem kval_ne {r : T → EReal} (h : dot r D (sel best D r) ≠ 0) : kval best D r ≠ 0 := by
  have hm : mag (dot r D (sel best D r)) ≠ 0 := fun h' => h (mag_eq_zero h')
  rw [kval]
  split
  · exact hm
  · rw [zero_sub]; exact fun h' => hm (by simpa using h')

/-- An infinite coordinate stays infinite in the kernel. -/
theorem kres_big {t : T} {n : ℕ} (h : Big (kres best D x n t)) (i : ℕ) : Big (kres best D x (n + i) t) := by
  induction i with
  | zero => exact h
  | succ i ih => exact ih.sub _

/-- An infinite coordinate stays infinite in the reference. -/
theorem rres_big {t : T} {n : ℕ} (h : Big (rres best D x n t)) (i : ℕ) : Big (rres best D x (n + i) t) := by
  induction i with
  | zero => exact h
  | succ i ih => exact ih.sub _

/-- The first of the steps that chose the row of step `s`. -/
theorem exists_fresh (p : ℕ → J) (s : ℕ) : ∃ k ≤ s, p k = p s ∧ fresh p k = 1 := by
  have hex : ∃ k, p k = p s := ⟨s, rfl⟩
  classical
  refine ⟨Nat.find hex, Nat.find_min' hex rfl, Nat.find_spec hex, ?_⟩
  rw [fresh, if_neg]
  rintro ⟨j, hj, h⟩
  exact Nat.find_min hex hj (h.symm.trans (Nat.find_spec hex))

/-- A sum over the steps, each chosen row once, is the sum over the rows chosen. -/
theorem sum_fresh (p : ℕ → J) (f : J → EReal) (n : ℕ) :
    ∑ k ∈ range n, fresh p k * f (p k) = ∑ j, if ∃ k < n, p k = j then f j else 0 := by
  induction n with
  | zero => simp
  | succ n ih =>
    rw [sum_range_succ, ih]
    by_cases h : ∃ j < n, p n = p j
    · rw [fresh, if_pos h, zero_mul, add_zero]
      refine sum_congr rfl fun j _ => if_congr ?_ rfl rfl
      constructor
      · rintro ⟨k, hk, e⟩; exact ⟨k, hk.trans n.lt_succ_self, e⟩
      · rintro ⟨k, hk, e⟩
        rcases Nat.lt_succ_iff_lt_or_eq.1 hk with hk | rfl
        · exact ⟨k, hk, e⟩
        · obtain ⟨i, hi, e'⟩ := h
          exact ⟨i, hi, e'.symm.trans e⟩
    · rw [fresh, if_neg h, one_mul]
      have hz : f (p n) = ∑ j, if j = p n then f j else 0 := by simp
      rw [hz, ← sum_add_distrib]
      refine sum_congr rfl fun j _ => ?_
      by_cases hj : j = p n
      · subst hj
        rw [if_neg (fun ⟨k, hk, e⟩ => h ⟨k, hk, e.symm⟩), if_pos rfl, if_pos ⟨n, n.lt_succ_self, rfl⟩, zero_add]
      · rw [if_neg hj, add_zero]
        refine if_congr ?_ rfl rfl
        constructor
        · rintro ⟨k, hk, e⟩; exact ⟨k, hk.trans n.lt_succ_self, e⟩
        · rintro ⟨k, hk, e⟩
          rcases Nat.lt_succ_iff_lt_or_eq.1 hk with hk | rfl
          · exact ⟨k, hk, e⟩
          · exact absurd e.symm hj

/-- All steps calm: the coefficients agree. -/
theorem kcoef_eq (h : ∀ k < 8, Calm best D (rres best D x k)) {k : ℕ} (hk : k < 8) :
    kcoef best D x k = dot (rres best D x 7) D (sel best D (rres best D x k))
    ∧ ((∃ t, Big (D (sel best D (rres best D x k)) t)) → dot (rres best D x 7) D (sel best D (rres best D x k)) = 0) := by
  have hz : (∃ t, Big (D (sel best D (rres best D x k)) t)) → dot (rres best D x 7) D (sel best D (rres best D x k)) = 0 := by
    rintro ⟨t, ht⟩
    have h0 := (h k hk).resolve_right fun hn => hn t ht
    have hs : rres best D x 7 = rres best D x k := by
      have := rres_stay h0 (7 - k)
      rwa [show k + (7 - k) = 7 by omega] at this
    rw [hs]; exact h0
  refine ⟨?_, hz⟩
  rw [kcoef, kres_eq fun i hi => h i (hi.trans (by omega)), kres_eq fun i hi => h i (hi.trans hk)]
  split
  · subst k; exact kval_eq (h 7 hk)
  · by_cases hb : ∃ t, Big (D (sel best D (rres best D x k)) t)
    · exact dot_wholes fun hB => hB.ne_zero (hz hb)
    · exact dot_wholes_of fun t ht => hb ⟨t, ht⟩

/-- Magnitudes summed are not negative. -/
theorem kone_nonneg : 0 ≤ kone best D x :=
  sum_nonneg fun k _ => EReal.mul_nonneg (by rw [fresh]; split <;> simp) (mag_nonneg _)

/-- Magnitudes summed are not negative. -/
theorem rone_nonneg : 0 ≤ rone best D x := sum_nonneg fun j _ => mag_nonneg _

/-- A sum of values not negative with an infinite one is infinite. -/
theorem sum_top {I : Type} [DecidableEq I] {s : Finset I} {f : I → EReal} {i : I} (hi : i ∈ s) (hf : ∀ j, 0 ≤ f j) (h : f i = ⊤) : ∑ j ∈ s, f j = ⊤ := by
  have : f i ≤ ∑ j ∈ s, f j := single_le_sum (fun j _ => hf j) hi
  exact top_le_iff.1 (h ▸ this)

/-- One sample: the two agree, or both sums of magnitudes are infinite, or both reconstructions are, somewhere. -/
theorem agree :
    (kone best D x = rone best D x ∧ ∀ t, krec best D x t = rrec best D x t)
    ∨ (kone best D x = ⊤ ∧ rone best D x = ⊤)
    ∨ ∃ t, Big (krec best D x t) ∧ Big (rrec best D x t) := by
  classical
  by_cases h : ∀ k < 8, Calm best D (rres best D x k)
  · left
    have hp : ∀ k < 8, sel best D (kres best D x k) = sel best D (rres best D x k) := fun k hk => by
      rw [kres_eq fun i hi => h i (hi.trans hk)]
    have hf : ∀ k < 8, fresh (fun k => sel best D (kres best D x k)) k = fresh (fun k => sel best D (rres best D x k)) k := fun k hk => by
      rw [fresh, fresh]
      refine if_congr (exists_congr fun j => and_congr_right fun hj => ?_) rfl rfl
      rw [hp k hk, hp j (hj.trans hk)]
    constructor
    · rw [kone, rone, sum_congr rfl fun k hk => by
        rw [hf k (mem_range.1 hk), (kcoef_eq h (mem_range.1 hk)).1],
        sum_fresh (fun k => sel best D (rres best D x k)) (fun j => mag (dot (rres best D x 7) D j))]
      refine sum_congr rfl fun j _ => ?_
      by_cases hq : ∃ k < 8, sel best D (rres best D x k) = j
      · rw [rcoef, if_pos hq, if_pos hq]
      · rw [rcoef, if_neg hq, if_neg hq]; simp [mag]
    · intro t
      rw [krec, rrec, sum_congr rfl fun k hk => by
        rw [hf k (mem_range.1 hk), (kcoef_eq h (mem_range.1 hk)).1, hp k (mem_range.1 hk), mul_assoc,
          show dot (rres best D x 7) D (sel best D (rres best D x k)) * wholes D (sel best D (rres best D x k)) t
            = dot (rres best D x 7) D (sel best D (rres best D x k)) * D (sel best D (rres best D x k)) t by
            by_cases hb : ∃ t, Big (D (sel best D (rres best D x k)) t)
            · rw [(kcoef_eq h (mem_range.1 hk)).2 hb, zero_mul, zero_mul]
            · rw [wholes, whole_eq fun ht => hb ⟨t, ht⟩]],
        sum_fresh (fun k => sel best D (rres best D x k)) (fun j => dot (rres best D x 7) D j * D j t)]
      refine sum_congr rfl fun j _ => ?_
      by_cases hq : ∃ k < 8, sel best D (rres best D x k) = j
      · rw [rcoef, if_pos hq, if_pos hq]
      · rw [rcoef, if_neg hq, if_neg hq, zero_mul]
  · right
    have hex : ∃ k, k < 8 ∧ ¬ Calm best D (rres best D x k) := by simpa using h
    obtain ⟨s, ⟨hs8, hs⟩, hmin⟩ : ∃ s, (s < 8 ∧ ¬ Calm best D (rres best D x s)) ∧ ∀ k < s, Calm best D (rres best D x k) :=
      ⟨Nat.find hex, Nat.find_spec hex, fun k hk => by
        by_contra hc
        exact Nat.find_min hex hk ⟨hk.trans (Nat.find_spec hex).1, hc⟩⟩
    have he := kres_eq hmin
    obtain ⟨hne, hbig⟩ := not_or.1 hs
    push Not at hbig
    obtain ⟨t, ht⟩ := hbig
    rcases Nat.lt_or_eq_of_le (Nat.le_of_lt_succ hs8) with hs7 | rfl
    · left
      have hk : Big (kres best D x (s + 1) t) := by
        rw [kres, he]; exact (Big.mul (kval_ne hne) (whole_big ht)).sub_left _
      have hr : Big (rres best D x (s + 1) t) := (Big.mul hne ht).sub_left _
      have hk7 := kres_big hk (7 - (s + 1))
      have hr7 := rres_big hr (7 - (s + 1))
      rw [show s + 1 + (7 - (s + 1)) = 7 by omega] at hk7 hr7
      constructor
      · obtain ⟨k, hks, hpk, hfr⟩ := exists_fresh (fun k => sel best D (kres best D x k)) s
        refine sum_top (i := k) (mem_range.2 (by omega)) (fun j => EReal.mul_nonneg (by rw [fresh]; split <;> simp) (mag_nonneg _)) ?_
        rw [hfr, one_mul]
        refine Big.mag_eq ?_
        rw [kcoef, if_neg (by omega)]
        have hpk' : sel best D (kres best D x k) = sel best D (kres best D x s) := hpk
        rw [hpk', he]
        exact Big.sum (f := fun t => kres best D x 7 t * wholes D (sel best D (rres best D x s)) t) (mem_univ t) (Big.mul hk7.ne_zero (whole_big ht))
      · refine sum_top (i := sel best D (rres best D x s)) (mem_univ _) (fun j => mag_nonneg _) (Big.mag_eq ?_)
        rw [rcoef, if_pos ⟨s, by omega, rfl⟩]
        exact Big.sum (f := fun t => rres best D x 7 t * D (sel best D (rres best D x s)) t) (mem_univ t) (Big.mul hr7.ne_zero ht)
    · right
      refine ⟨t, ?_, ?_⟩
      · refine Big.sum (t := 7) (mem_range.2 (by omega)) ?_
        obtain ⟨k, hks, hpk, hfr⟩ := exists_fresh (fun k => sel best D (kres best D x k)) 7
        have hpk' : sel best D (kres best D x k) = sel best D (kres best D x 7) := hpk
        have h7 : k = 7 := by
          by_contra hk7
          have hlt : k < 7 := by omega
          rw [he, kres_eq fun i hi => hmin i (hi.trans hlt)] at hpk'
          rcases hmin k hlt with h0 | h0
          · have := rres_stay h0 (7 - k)
            rw [show k + (7 - k) = 7 by omega] at this
            exact hne (this ▸ h0)
          · exact h0 t (hpk' ▸ ht)
        subst h7
        rw [hfr, one_mul, kcoef, if_pos rfl, he]
        exact Big.mul (kval_ne hne) (whole_big ht)
      · refine Big.sum (t := sel best D (rres best D x 7)) (mem_univ _) ?_
        rw [rcoef, if_pos ⟨7, by omega, rfl⟩]
        exact Big.mul hne ht

end pursuit
end Cert.Pursuit

end
-- ==== Proof.E.Top.lean ====
module
public import Idealize.ShloMosaic.Lib.Pointwise
public import proofs.«01_k».proof.Proof.E.Steps

@[expose] public section

noncomputable section

/-! The first place of the largest magnitude: over a block, merged, over everything. -/

namespace Cert.Pursuit
open Finset Idealize.ShloMosaic

/-- Among the places `S`, the first with the largest magnitude is `n`; `m`, `i`, `p` are its magnitude, its number, and what lies there. -/
structure Top {A : Type} (v : ℕ → EReal) (q : ℕ → A) (S : ℕ → Prop) (n : ℕ) (m : EReal) (i : BitVec 32) (p : A) : Prop where
  lt : n < 65536
  mem : S n
  le : ∀ j, S j → mag (v j) ≤ mag (v n)
  first : ∀ j, S j → j < n → mag (v j) < mag (v n)
  mag_eq : m = mag (v n)
  num_eq : i = BitVec.ofNat 32 n
  at_eq : p = q n

variable {A : Type} {v : ℕ → EReal} {q : ℕ → A} {S S' : ℕ → Prop} {n n' : ℕ} {m m' : EReal} {i i' : BitVec 32} {p p' : A}

/-- The better of two: the second where it is larger, or as large and earlier. -/
theorem Top.union {B C : Type} {v : ℕ → EReal} {q : ℕ → B → C} {p p' : B → C} (h : Top v q S n m i p) (h' : Top v q S' n' m' i' p') {c : BitVec 1}
    (hc : c = 1#1 ↔ m < m' ∨ m' = m ∧ n' < n) :
    ∃ k, Top v q (fun j => S j ∨ S' j) k (Scalar.select c m' m) (Scalar.select c i' i) (fun l => Scalar.select c (p' l) (p l)) := by
  by_cases h1 : c = 1#1
  · have hd := hc.1 h1
    have hs : ∀ {T : Type} (a b : T), Scalar.select c a b = a := fun a b => if_pos h1
    rw [h.mag_eq, h'.mag_eq] at hd
    refine ⟨n', h'.lt, .inr h'.mem, ?_, ?_, (hs _ _).trans h'.mag_eq, (hs _ _).trans h'.num_eq, (funext fun l => hs _ _).trans h'.at_eq⟩
    · rintro j (hj | hj)
      · exact (h.le j hj).trans (hd.elim le_of_lt fun e => e.1.ge)
      · exact h'.le j hj
    · rintro j (hj | hj) hlt
      · rcases hd with hd | ⟨he, hn⟩
        · exact (h.le j hj).trans_lt hd
        · exact he ▸ h.first j hj (hlt.trans hn)
      · exact h'.first j hj hlt
  · have hd := fun hh => h1 (hc.2 hh)
    have hs : ∀ {T : Type} (a b : T), Scalar.select c a b = b := fun a b => if_neg h1
    rw [h.mag_eq, h'.mag_eq] at hd
    have hle : mag (v n') ≤ mag (v n) := not_lt.1 fun hh => hd (.inl hh)
    refine ⟨n, h.lt, .inl h.mem, ?_, ?_, (hs _ _).trans h.mag_eq, (hs _ _).trans h.num_eq, (funext fun l => hs _ _).trans h.at_eq⟩
    · rintro j (hj | hj)
      · exact h.le j hj
      · exact (h'.le j hj).trans hle
    · rintro j (hj | hj) hlt
      · exact h.first j hj hlt
      · rcases lt_or_eq_of_le hle with hl | he
        · exact (h'.le j hj).trans_lt hl
        · have hn : n ≤ n' := not_lt.1 fun hh => hd (.inr ⟨he, hh⟩)
          exact he ▸ h'.first j hj (hlt.trans_le hn)

/-- The same over equal places. -/
theorem Top.congr (h : Top v q S n m i p) (hS : ∀ j, S j ↔ S' j) : Top v q S' n m i p :=
  ⟨h.lt, (hS n).1 h.mem, fun j hj => h.le j ((hS j).2 hj), fun j hj => h.first j ((hS j).2 hj), h.mag_eq, h.num_eq, h.at_eq⟩

/-- A word below 65537 read signed. -/
theorem toInt_small {a : ℕ} (ha : a < 65537) : (BitVec.ofNat 32 a).toInt = a := by
  have h : (BitVec.ofNat 32 a).toNat = a := by rw [BitVec.toNat_ofNat]; exact Nat.mod_eq_of_lt (by omega)
  rw [BitVec.toInt_eq_toNat_of_lt (by omega), h]

/-- Numbers below 65537 compare as words do. -/
theorem slt_iff {a b : ℕ} (ha : a < 65537) (hb : b < 65537) : (BitVec.ofNat 32 a).slt (BitVec.ofNat 32 b) = true ↔ a < b := by
  rw [BitVec.slt, decide_eq_true_eq, toInt_small ha, toInt_small hb]; omega

/-- The least of words is the least of the numbers. -/
theorem toInt_minsi (x y : BitVec 32) : (IntOp.minsi x y).toInt = min x.toInt y.toInt := by
  rw [IntOp.minsi, BitVec.slt]
  by_cases h : x.toInt < y.toInt
  · rw [if_pos (decide_eq_true h), min_eq_left h.le]
  · rw [if_neg (by simpa using h), min_eq_right (not_lt.1 h)]

/-- The least number kept, out of a block's. -/
theorem fold_minsi {N : ℕ} (hN : N ≤ 65536) (P : Fin N → Prop) [DecidablePred P] (k : Fin N) (hk : P k) (hmin : ∀ j, P j → k ≤ j) (z : BitVec 32)
    (hz : z.toInt = 2048) (hkz : k.val < 2048) :
    (univ : Finset (Fin N)).fold IntOp.minsi 2147483647#32 (fun j => if P j then BitVec.ofNat 32 j.val else z) = BitVec.ofNat 32 k.val := by
  apply BitVec.eq_of_toInt_eq
  rw [← Finset.fold_hom (op' := min) (m := BitVec.toInt) toInt_minsi]
  have hkk := k.isLt
  apply le_antisymm
  · rw [Finset.fold_min_le]
    refine .inr ⟨k, mem_univ k, ?_⟩
    rw [if_pos hk]
  · rw [Finset.le_fold_min, toInt_small (by omega)]
    refine ⟨by have : (2147483647#32).toInt = 2147483647 := by decide
               omega, fun j _ => ?_⟩
    split
    · rw [toInt_small (by omega)]
      have := hmin j ‹_›
      exact_mod_cast this
    · omega

/-- The largest magnitude of a block, and its first place. -/
theorem fold_max {N : ℕ} [NeZero N] (f : Fin N → EReal) : ∃ k : Fin N, (univ : Finset (Fin N)).fold max ⊥ (fun j => mag (f j)) = mag (f k)
    ∧ (∀ j, mag (f j) ≤ mag (f k)) ∧ ∀ j, mag (f j) = mag (f k) → k ≤ j := by
  classical
  obtain ⟨k0, -, hk0⟩ := exists_max_image (univ : Finset (Fin N)) (fun j => mag (f j)) ⟨0, mem_univ _⟩
  have hex : ∃ n, ∃ h : n < N, mag (f ⟨n, h⟩) = mag (f k0) := ⟨k0.val, k0.isLt, rfl⟩
  obtain ⟨hlt, hek⟩ := Nat.find_spec hex
  have hle : ∀ j, mag (f j) ≤ mag (f ⟨Nat.find hex, hlt⟩) := fun j => (hk0 j (mem_univ j)).trans hek.ge
  refine ⟨⟨Nat.find hex, hlt⟩, ?_, hle, fun j hj => ?_⟩
  · apply le_antisymm
    · rw [Finset.fold_max_le]; exact ⟨bot_le, fun j _ => hle j⟩
    · rw [Finset.le_fold_max]; exact .inr ⟨_, mem_univ _, le_rfl⟩
  · exact Nat.find_min' hex ⟨j.isLt, hj.trans hek⟩

section best
variable {N : ℕ} [NeZero N]

/-- The first place of the largest magnitude. -/
def best (v : Fin N → EReal) : Fin N := (fold_max v).choose

/-- It is largest there. -/
theorem best_le (v : Fin N → EReal) (j : Fin N) : mag (v j) ≤ mag (v (best v)) := (fold_max v).choose_spec.2.1 j

/-- And nowhere before. -/
theorem best_first (v : Fin N → EReal) {j : Fin N} (h : mag (v j) = mag (v (best v))) : best v ≤ j := (fold_max v).choose_spec.2.2 j h

/-- It is the only such place. -/
theorem eq_best {v : Fin N → EReal} {k : Fin N} (h1 : ∀ j, mag (v j) ≤ mag (v k)) (h2 : ∀ j, j < k → mag (v j) < mag (v k)) : k = best v := by
  have he : mag (v k) = mag (v (best v)) := le_antisymm (best_le v k) (h1 _)
  rcases lt_trichotomy k (best v) with h | h | h
  · exact absurd (best_first v he) (not_le.2 h)
  · exact h
  · exact absurd he (h2 _ h).ne'
end best

end Cert.Pursuit

end
-- ==== Proof.K.Point.lean ====
module
public import proofs.«01_k».proof.Proof.K.Value
public import proofs.«01_k».proof.Proof.E.Top

@[expose] public section

set_option maxRecDepth 16384

noncomputable section

/-! The scan over the dictionary, read at one sample. -/

namespace Cert.KernelIdeal.Pursuit
open Cert.KernelIdeal Cert.KernelIdeal.Facts₀ Cert.Pursuit
open Idealize.ShloMosaic Idealize.ShloMosaic.TcCoe

/-- An inner product of a residual with a column of the block. -/
theorem dots_apply (r : FVec Ideal S128x32 .f32) (B : Vec Ideal S32x2048 .f32) (b : Fin 128) (k : Fin 2048) :
    dots r B (ix2 b k) = ∑ t : Fin 32, r (ix2 b t) * B (ix2 t k) := by
  pointwise [dots]

/-- A row of packed rows picked by a one-hot row. -/
theorem fetch_apply (o : FVec Ideal S128x512 .bf16) (h : Vec Ideal S512x128 .bf16) (b l : Fin 128) :
    fetch o h (ix2 b l) = ∑ k : Fin 512, o (ix2 b k) * h (ix2 k l) := by
  pointwise [fetch]

/-- The pattern maxima start from is minus infinity. -/
theorem ofBits_bottom : Ideal.ofBits .f32 0xFF800000#32 = ⊥ := by simp [Ideal.ofBits, Ideal.ieee]

/-- A block's largest magnitude. -/
theorem chunkMax_apply (ip : FVec Ideal S128x2048 .f32) (b : Fin 128) :
    chunkMax ip (ix2 b 0) = (Finset.univ : Finset (Fin 2048)).fold max ⊥ (fun k => mag (ip (ix2 b k))) := by
  pointwise [chunkMax]
  rw [ofBits_bottom]
  rfl

/-- The first column that attains it. -/
theorem chunkIdx_apply (ip : FVec Ideal S128x2048 .f32) (col : IVec S128x2048 32) (b : Fin 128) :
    chunkIdx col ip (ix2 b 0) = (Finset.univ : Finset (Fin 2048)).fold IntOp.minsi 2147483647#32
      (fun k => if mag (ip (ix2 b k)) = chunkMax ip (ix2 b 0) then col (ix2 b k) else 2048#32) := by
  pointwise [chunkIdx]
  rfl

/-- The one-hot row. -/
theorem pick_apply (col4 : IVec S128x512 32) (l : IVec S128x1 32) (b : Fin 128) (k : Fin 512) (n : ℕ) (hn : n < 2048)
    (hl : l (ix2 b 0) = BitVec.ofNat 32 n) (hc : col4 (ix2 b k) = BitVec.ofNat 32 k.val) :
    pick (F := Ideal) col4 l (ix2 b k) = if k.val = n / 4 then 1 else 0 := by
  have hk := k.isLt
  pointwise [pick]
  rw [hl, hc]
  have hs : IntOp.shrui ArithUnit.vector (BitVec.ofNat 32 n) 2#32 = BitVec.ofNat 32 (n / 4) := by
    rw [IntOp.shrui, if_pos (by decide)]
    apply BitVec.eq_of_toNat_eq
    simp only [BitVec.ushiftRight_eq', BitVec.toNat_ushiftRight, BitVec.toNat_ofNat, Nat.shiftRight_eq_div_pow]
    norm_num
    omega
  rw [hs]
  by_cases h : k.val = n / 4
  · rw [if_pos h, h]
    show (((BitVec.setWidth 32 (BitVec.ofBool (_ == _))).toInt : ℝ) : EReal) = 1
    rw [beq_self_eq_true]
    have : (BitVec.setWidth 32 (BitVec.ofBool true)).toInt = 1 := by decide
    rw [this]; norm_num
  · rw [if_neg h]
    show (((BitVec.setWidth 32 (BitVec.ofBool (_ == _))).toInt : ℝ) : EReal) = 0
    have hne : (BitVec.ofNat 32 k.val == BitVec.ofNat 32 (n / 4)) = false := by
      rw [beq_eq_false_iff_ne]
      intro he
      have := congrArg BitVec.toNat he
      simp only [BitVec.toNat_ofNat] at this
      omega
    rw [hne]
    have : (BitVec.setWidth 32 (BitVec.ofBool false)).toInt = 0 := by decide
    rw [this]; norm_num

attribute [local irreducible] chunkMax chunkIdx

section sample
variable (D : Vec Ideal S32x65536 .f32) (P : Vec Ideal S16384x128 .f32) (r : FVec Ideal S128x32 .f32) (b : Fin 128)

/-- A sample's inner product with column `j`. -/
def prod (j : ℕ) : EReal := ∑ t : Fin 32, r (ix2 b t) * D (ix2 t ⟨j % 65536, Nat.mod_lt _ (by decide)⟩)

/-- The packed row that holds column `j`, put together from its three parts. -/
def packed (j : ℕ) (l : Fin 128) : EReal := whole (P (ix2 ⟨j / 4 % 16384, Nat.mod_lt _ (by decide)⟩ l))

/-- A block of inner products is the products with its columns. -/
theorem dots_cols (o : ℕ) (k : Fin 2048) : dots r (cols D o) (ix2 b k) = prod D r b (o + k.val) := by
  rw [dots_apply]
  refine Finset.sum_congr rfl fun t _ => congrArg (r (ix2 b t) * ·) ?_
  rw [cols]
  refine congrArg D (funext fun a => ?_)
  match a with
  | ⟨0, _⟩ => rfl
  | ⟨1, _⟩ => rfl

variable {D P r b}

/-- A picked packed row. -/
theorem fetch_rows (H : Vec Ideal S16384x128 .bf16) (col4 : IVec S128x512 32) (l : IVec S128x1 32) (n o : ℕ) (hn : n < 2048)
    (hl : l (ix2 b 0) = BitVec.ofNat 32 n) (hc : ∀ k : Fin 512, col4 (ix2 b k) = BitVec.ofNat 32 k.val) (e : Fin 128) :
    fetch (pick col4 l) (rows4 H o) (ix2 b e) = H (ix2 ⟨(o + n / 4) % 16384, Nat.mod_lt _ (by decide)⟩ e) := by
  rw [fetch_apply, Finset.sum_eq_single (⟨n / 4, by omega⟩ : Fin 512)]
  · rw [pick_apply col4 l b _ n hn hl (hc _), if_pos rfl, one_mul, rows4]
    refine congrArg H (funext fun a => ?_)
    match a with
    | ⟨0, _⟩ => rfl
    | ⟨1, _⟩ => rfl
  · intro k _ hk
    rw [pick_apply col4 l b _ n hn hl (hc _), if_neg fun h => hk (Fin.ext h), zero_mul]
  · intro h; exact absurd (Finset.mem_univ _) h

/-- A block's candidate is the first place of its largest magnitude. -/
theorem cand_top (col : IVec S128x2048 32) (col4 : IVec S128x512 32) (hcol : ∀ k : Fin 2048, col (ix2 b k) = BitVec.ofNat 32 k.val)
    (hcol4 : ∀ k : Fin 512, col4 (ix2 b k) = BitVec.ofNat 32 k.val) (k j : ℕ) (hk : k < 8) (hj : j < 4) (ip : FVec Ideal S128x2048 .f32)
    (hip : ∀ e : Fin 2048, ip (ix2 b e) = prod D r b (2048 * k + 16384 * j + e.val)) :
    ∃ n, Top (prod D r b) (packed P) (fun i => 2048 * k + 16384 * j ≤ i ∧ i < 2048 * k + 16384 * j + 2048) n
      ((cand col col4 (high P) (mid P) (low P) k j ip).1 (ix2 b 0)) ((cand col col4 (high P) (mid P) (low P) k j ip).2.1 (ix2 b 0))
      (fun l => (cand col col4 (high P) (mid P) (low P) k j ip).2.2 (ix2 b l)) := by
  obtain ⟨e, he, hle, hfirst⟩ := fold_max (fun e : Fin 2048 => ip (ix2 b e))
  have hee := e.isLt
  have hm : chunkMax ip (ix2 b 0) = mag (ip (ix2 b e)) := (chunkMax_apply ip b).trans he
  have hi : chunkIdx col ip (ix2 b 0) = BitVec.ofNat 32 e.val := by
    rw [chunkIdx_apply, hm]
    simp only [hcol]
    exact fold_minsi (by decide) (fun k : Fin 2048 => mag (ip (ix2 b k)) = mag (ip (ix2 b e))) e rfl (fun j hj => hfirst j hj) _ (by decide) hee
  refine ⟨2048 * k + 16384 * j + e.val, by omega, ⟨by omega, by omega⟩, ?_, ?_, ?_, ?_, ?_⟩
  · rintro i ⟨h1, h2⟩
    have := hle ⟨i - (2048 * k + 16384 * j), by omega⟩
    rw [hip, hip] at this
    rwa [show 2048 * k + 16384 * j + (i - (2048 * k + 16384 * j)) = i by omega] at this
  · rintro i ⟨h1, h2⟩ hlt
    have h3 := hle ⟨i - (2048 * k + 16384 * j), by omega⟩
    have h4 := hfirst ⟨i - (2048 * k + 16384 * j), by omega⟩
    rw [hip, hip] at h3 h4
    rw [show 2048 * k + 16384 * j + (i - (2048 * k + 16384 * j)) = i by omega] at h3 h4
    refine lt_of_le_of_ne h3 fun h => ?_
    have h5 : e.val ≤ i - (2048 * k + 16384 * j) := h4 h
    omega
  · show chunkMax ip (ix2 b 0) = _
    rw [hm, hip]
  · show IntOp.addi (chunkIdx col ip (ix2 b 0)) (Scalar.muli (BitVec.ofNat 32 (k + 8 * j)) 2048#32) = _
    rw [hi]
    apply BitVec.eq_of_toNat_eq
    show (BitVec.ofNat 32 e.val + BitVec.ofNat 32 (k + 8 * j) * 2048#32).toNat = _
    simp only [BitVec.toNat_add, BitVec.toNat_mul, BitVec.toNat_ofNat]
    omega
  · funext l
    show fetch _ _ (ix2 b l) + fetch _ _ (ix2 b l) + fetch _ _ (ix2 b l) = _
    rw [fetch_rows _ col4 _ e.val _ hee hi hcol4 l, fetch_rows _ col4 _ e.val _ hee hi hcol4 l, fetch_rows _ col4 _ e.val _ hee hi hcol4 l]
    have hq : (512 * k + 4096 * j + e.val / 4) % 16384 = (2048 * k + 16384 * j + e.val) / 4 % 16384 := by omega
    show whole (P (ix2 ⟨(512 * k + 4096 * j + e.val / 4) % 16384, _⟩ l)) = whole (P (ix2 ⟨(2048 * k + 16384 * j + e.val) / 4 % 16384, _⟩ l))
    simp only [hq]

/-- A candidate chosen by a bit, read at a sample. -/
theorem choose_apply (u : IVec S128x1 1) (y a : Cand Ideal) (b l : Fin 128) :
    (choose u y a).1 (ix2 b 0) = Scalar.select (u (ix2 b 0)) (y.1 (ix2 b 0)) (a.1 (ix2 b 0))
    ∧ (choose u y a).2.1 (ix2 b 0) = Scalar.select (u (ix2 b 0)) (y.2.1 (ix2 b 0)) (a.2.1 (ix2 b 0))
    ∧ (choose u y a).2.2 (ix2 b l) = Scalar.select (u (ix2 b 0)) (y.2.2 (ix2 b l)) (a.2.2 (ix2 b l)) := by
  refine ⟨rfl, rfl, ?_⟩
  pointwise [choose]

/-- One where the second is larger. -/
theorem ogt_iff (x y : EReal) : FloatOps.cmpf (F := Ideal) (φ := .f32) .ogt x y = 1#1 ↔ y < x := by
  rw [Ideal.cmpf_def]
  by_cases h : y < x <;> simp [Ideal.cmp, h]

/-- One where they are equal. -/
theorem oeq_iff (x y : EReal) : FloatOps.cmpf (F := Ideal) (φ := .f32) .oeq x y = 1#1 ↔ x = y := by
  rw [Ideal.cmpf_def]
  by_cases h : x = y <;> simp [Ideal.cmp, h]

variable (D P r b) in
/-- A candidate is, at the sample, the first place of the largest magnitude among `S`. -/
def Has (S : ℕ → Prop) (n : ℕ) (c : Cand Ideal) : Prop :=
  Top (prod D r b) (packed P) S n (c.1 (ix2 b 0)) (c.2.1 (ix2 b 0)) (fun l => c.2.2 (ix2 b l))

/-- Two candidates, one chosen by a bit that says which is better. -/
theorem choose_has {S S' : ℕ → Prop} {n n' : ℕ} {a y : Cand Ideal} (h : Has D P r b S n a) (h' : Has D P r b S' n' y) {u : IVec S128x1 1}
    (hu : u (ix2 b 0) = 1#1 ↔ a.1 (ix2 b 0) < y.1 (ix2 b 0) ∨ y.1 (ix2 b 0) = a.1 (ix2 b 0) ∧ n' < n) :
    ∃ k, Has D P r b (fun j => S j ∨ S' j) k (choose u y a) := by
  obtain ⟨k, hk⟩ := h.union h' hu
  refine ⟨k, ?_⟩
  rw [Has, show (fun l => (choose u y a).2.2 (ix2 b l)) = fun l => Scalar.select (u (ix2 b 0)) (y.2.2 (ix2 b l)) (a.2.2 (ix2 b l)) from
    funext fun l => (choose_apply u y a b l).2.2]
  exact hk

/-- Of two blocks the second wins only where larger: its columns are later. -/
theorem merge_has {S S' : ℕ → Prop} {n n' : ℕ} {a y : Cand Ideal} (h : Has D P r b S n a) (h' : Has D P r b S' n' y) (hlt : ∀ i j, S i → S' j → i < j) :
    ∃ k, Has D P r b (fun j => S j ∨ S' j) k (merge a y) := by
  refine choose_has h h' ?_
  show FloatOps.cmpf (F := Ideal) (φ := .f32) .ogt (y.1 (ix2 b 0)) (a.1 (ix2 b 0)) = 1#1 ↔ _
  rw [ogt_iff]
  have := hlt _ _ h.mem h'.mem
  exact ⟨.inl, fun hh => hh.resolve_right fun hr => by omega⟩

/-- A disjunction of bits. -/
theorem ori_iff (x y : BitVec 1) : IntOp.ori x y = 1#1 ↔ x = 1#1 ∨ y = 1#1 := by revert x y; decide

/-- A conjunction of bits. -/
theorem andi_iff (x y : BitVec 1) : IntOp.andi x y = 1#1 ↔ x = 1#1 ∧ y = 1#1 := by revert x y; decide

/-- Signed comparison of small numbers, as a bit. -/
theorem slt_bit {x y : ℕ} (hx : x < 65537) (hy : y < 65537) : IntOp.cmpi .slt (BitVec.ofNat 32 x) (BitVec.ofNat 32 y) = 1#1 ↔ x < y := by
  rw [← slt_iff hx hy]
  show BitVec.ofBool (BitVec.slt _ _) = 1#1 ↔ _
  cases BitVec.slt (BitVec.ofNat 32 x) (BitVec.ofNat 32 y) <;> decide

/-- The bit that says whether a new candidate is better. -/
theorem better_bit (a y : Cand Ideal) (n n' : ℕ) (hn : n < 65537) (hn' : n' < 65537) (ha : a.2.1 (ix2 b 0) = BitVec.ofNat 32 n) (hy : y.2.1 (ix2 b 0) = BitVec.ofNat 32 n') :
    ori (cmpf .ogt y.1 a.1) (andi (cmpf .oeq y.1 a.1) (cmpi .slt y.2.1 a.2.1)) (ix2 b 0) = 1#1
      ↔ a.1 (ix2 b 0) < y.1 (ix2 b 0) ∨ y.1 (ix2 b 0) = a.1 (ix2 b 0) ∧ n' < n := by
  show IntOp.ori (FloatOps.cmpf (F := Ideal) (φ := .f32) .ogt (y.1 (ix2 b 0)) (a.1 (ix2 b 0))) (IntOp.andi
    (FloatOps.cmpf (F := Ideal) (φ := .f32) .oeq (y.1 (ix2 b 0)) (a.1 (ix2 b 0))) (IntOp.cmpi .slt (y.2.1 (ix2 b 0)) (a.2.1 (ix2 b 0)))) = 1#1 ↔ _
  rw [ha, hy, ori_iff, andi_iff, ogt_iff, oeq_iff, slt_bit hn' hn]

/-- A new candidate merged into the running one. -/
theorem better_has {S S' : ℕ → Prop} {n n' : ℕ} {a y : Cand Ideal} (h : Has D P r b S n a) (h' : Has D P r b S' n' y) :
    ∃ k, Has D P r b (fun j => S j ∨ S' j) k (better a y) :=
  choose_has h h' (better_bit a y n n' (h.lt.trans (by decide)) (h'.lt.trans (by decide)) h.num_eq h'.num_eq)

/-- The first candidate always wins: the run starts from a negative magnitude. -/
theorem better_start {S' : ℕ → Prop} {n' : ℕ} {a y : Cand Ideal} (h' : Has D P r b S' n' y) (ha : a.1 (ix2 b 0) < 0) (hi : a.2.1 (ix2 b 0) = 65536#32) :
    Has D P r b S' n' (better a y) := by
  have hu : ori (cmpf .ogt y.1 a.1) (andi (cmpf .oeq y.1 a.1) (cmpi .slt y.2.1 a.2.1)) (ix2 b 0) = 1#1 :=
    (better_bit a y 65536 n' (by decide) (h'.lt.trans (by decide)) hi h'.num_eq).2 (.inl (ha.trans_le (h'.mag_eq ▸ mag_nonneg _)))
  have hs : ∀ {T : Type} (x z : T), Scalar.select _ x z = x := fun x z => if_pos hu
  rw [Has, show (fun l => (better a y).2.2 (ix2 b l)) = fun l => y.2.2 (ix2 b l) from
    funext fun l => (choose_apply _ y a b l).2.2.trans (hs _ _)]
  rw [show (better a y).1 (ix2 b 0) = y.1 (ix2 b 0) from hs _ _, show (better a y).2.1 (ix2 b 0) = y.2.1 (ix2 b 0) from hs _ _]
  exact h'

variable (b) in
/-- What is known before trip `k` at the sample: the best column of the blocks passed, and the next blocks' inner products. -/
structure Before (r : FVec Ideal S128x32 .f32) (D : Vec Ideal S32x65536 .f32) (P : Vec Ideal S16384x128 .f32) (k : ℕ) (a : Acc Ideal) : Prop where
  some : 0 < k → ∃ n, Has D P r b (fun j => j < 65536 ∧ j / 2048 % 8 < k) n (a.1, a.2.1, a.2.2.1)
  none : k = 0 → a.1 (ix2 b 0) < 0 ∧ a.2.1 (ix2 b 0) = 65536#32
  next0 : k < 8 → a.2.2.2.1 = dots r (cols D (2048 * k + 16384 * 0))
  next1 : k < 8 → a.2.2.2.2.1 = dots r (cols D (2048 * k + 16384 * 1))
  next2 : k < 8 → a.2.2.2.2.2.1 = dots r (cols D (2048 * k + 16384 * 2))
  next3 : k < 8 → a.2.2.2.2.2.2 = dots r (cols D (2048 * k + 16384 * 3))

/-- The best of a trip's four blocks. -/
theorem four_has (col : IVec S128x2048 32) (col4 : IVec S128x512 32) (hcol : ∀ k : Fin 2048, col (ix2 b k) = BitVec.ofNat 32 k.val)
    (hcol4 : ∀ k : Fin 512, col4 (ix2 b k) = BitVec.ofNat 32 k.val) (k : ℕ) (hk : k < 8) :
    ∃ n, Has D P r b (fun j => j < 65536 ∧ j / 2048 % 8 = k) n
      (merge (merge (cand col col4 (high P) (mid P) (low P) k 0 (dots r (cols D (2048 * k + 16384 * 0)))) (cand col col4 (high P) (mid P) (low P) k 1 (dots r (cols D (2048 * k + 16384 * 1)))))
        (merge (cand col col4 (high P) (mid P) (low P) k 2 (dots r (cols D (2048 * k + 16384 * 2)))) (cand col col4 (high P) (mid P) (low P) k 3 (dots r (cols D (2048 * k + 16384 * 3)))))) := by
  obtain ⟨n0, h0⟩ := cand_top (D := D) (P := P) (r := r) col col4 hcol hcol4 k 0 hk (by decide) _ fun e => dots_cols D r b _ e
  obtain ⟨n1, h1⟩ := cand_top (D := D) (P := P) (r := r) col col4 hcol hcol4 k 1 hk (by decide) _ fun e => dots_cols D r b _ e
  obtain ⟨n2, h2⟩ := cand_top (D := D) (P := P) (r := r) col col4 hcol hcol4 k 2 hk (by decide) _ fun e => dots_cols D r b _ e
  obtain ⟨n3, h3⟩ := cand_top (D := D) (P := P) (r := r) col col4 hcol hcol4 k 3 hk (by decide) _ fun e => dots_cols D r b _ e
  obtain ⟨m0, g0⟩ := merge_has h0 h1 fun i j hi hj => by omega
  obtain ⟨m1, g1⟩ := merge_has h2 h3 fun i j hi hj => by omega
  obtain ⟨n, h⟩ := merge_has g0 g1 fun i j hi hj => by omega
  exact ⟨n, h.congr fun j => by omega⟩

/-- A trip keeps what is known. -/
theorem trip_before (col : IVec S128x2048 32) (col4 : IVec S128x512 32) (hcol : ∀ k : Fin 2048, col (ix2 b k) = BitVec.ofNat 32 k.val)
    (hcol4 : ∀ k : Fin 512, col4 (ix2 b k) = BitVec.ofNat 32 k.val) {k : ℕ} (hk : k < 8) {a : Acc Ideal} (h : Before b r D P k a) :
    Before b r D P (k + 1) (trip col col4 r D (high P) (mid P) (low P) k a) := by
  obtain ⟨n, hn⟩ := four_has (D := D) (P := P) (r := r) col col4 hcol hcol4 k hk
  rw [← h.next0 hk, ← h.next1 hk, ← h.next2 hk, ← h.next3 hk] at hn
  have hm : k + 1 < 8 → min (k + 1) 7 = k + 1 := fun _ => by omega
  refine ⟨fun _ => ?_, fun h0 => absurd h0 (by omega), ?_, ?_, ?_, ?_⟩
  · rcases Nat.eq_zero_or_pos k with h0 | h0
    · obtain ⟨h1, h2⟩ := h.none h0
      exact ⟨n, (better_start (a := (a.1, a.2.1, a.2.2.1)) hn h1 h2).congr fun j => by omega⟩
    · obtain ⟨n', hn'⟩ := h.some h0
      obtain ⟨n'', hn''⟩ := better_has hn' hn
      exact ⟨n'', hn''.congr fun j => by omega⟩
  all_goals
    intro h7
    rw [← hm h7]
    rfl

/-- So the whole scan keeps it. -/
theorem scan_before (col : IVec S128x2048 32) (col4 : IVec S128x512 32) (hcol : ∀ k : Fin 2048, col (ix2 b k) = BitVec.ofNat 32 k.val)
    (hcol4 : ∀ k : Fin 512, col4 (ix2 b k) = BitVec.ofNat 32 k.val) (k : ℕ) (hk : k ≤ 8) {a : Acc Ideal} (h : Before b r D P 0 a) :
    Before b r D P k (scan col col4 r D (high P) (mid P) (low P) a k) := by
  induction k with
  | zero => exact h
  | succ k ih => exact trip_before col col4 hcol hcol4 (by omega) (ih (by omega))

/-- Minus one is negative. -/
theorem ofBits_minus_one : Ideal.ofBits .f32 0xBF800000#32 < 0 := by
  have h : Ideal.ofBits .f32 0xBF800000#32 = -1 := by
    simp [Ideal.ofBits, Ideal.ieee]
    rw [← EReal.coe_mul]
    norm_num
  rw [h]; exact EReal.neg_lt_zero.2 one_pos

/-- The scan finds the first place of the largest magnitude. -/
theorem found_top : ∃ n, Has D P r b (fun j => j < 65536) n ((found D P r).1, (found D P r).2.1, (found D P r).2.2.1) := by
  have h0 : Before b r D P 0 (start D r) := ⟨fun h => absurd h (by decide), fun _ => ⟨ofBits_minus_one, rfl⟩, fun _ => rfl, fun _ => rfl, fun _ => rfl, fun _ => rfl⟩
  obtain ⟨n, hn⟩ := (scan_before (iota .tc S128x2048 32 [1] iota_S128x2048_d1_w32) (iota .tc S128x512 32 [1] iota_S128x512_d1_w32)
    (fun k => iota_single_apply _ _ _ _ _ _) (fun k => iota_single_apply _ _ _ _ _ _) 8 le_rfl h0).some (by decide)
  exact ⟨n, hn.congr fun j => by omega⟩

end sample

end Cert.KernelIdeal.Pursuit

end
-- ==== Proof.E.Total.lean ====
module
public import proofs.«01_k».proof.Proof.E.Top

@[expose] public section

noncomputable section

/-! The loss of a batch: the kernel's and the reference's are equal. -/

namespace Cert.Pursuit
open Finset Idealize.ShloMosaic

/-- The dictionary's rows. -/
def entries (E : (⟨2, ![65536, 32]⟩ : Shape).Idx → EReal) : Fin 65536 → Fin 32 → EReal := fun j t => E (ix2 j t)

/-- A sample of a batch. -/
def samp (r : (⟨2, ![128, 32]⟩ : Shape).Idx → EReal) (b : Fin 128) : Fin 32 → EReal := fun t => r (ix2 b t)

/-- The loss of reconstructions and sums of magnitudes. -/
def total (x rec : Fin 128 → Fin 32 → EReal) (one : Fin 128 → EReal) : EReal :=
  Ideal.div (∑ b, ∑ t, (rec b t - x b t) * (rec b t - x b t)) (Ideal.ofBits .f32 0x45800000#32)
    + Ideal.ofBits .f32 0x3DCCCCCD#32 * Ideal.div (∑ b, one b) (Ideal.ofBits .f32 0x43000000#32)

/-- A positive finite value. -/
def Pos (v : EReal) : Prop := ∃ y : ℝ, 0 < y ∧ v = y

/-- 4096. -/
theorem pos_count : Pos (Ideal.ofBits .f32 0x45800000#32) := by
  refine ⟨4096, by norm_num, ?_⟩
  simp [Ideal.ofBits, Ideal.ieee]
  rw [← EReal.coe_mul]
  norm_num

/-- 128. -/
theorem pos_batch : Pos (Ideal.ofBits .f32 0x43000000#32) := by
  refine ⟨128, by norm_num, ?_⟩
  simp [Ideal.ofBits, Ideal.ieee]
  rw [← EReal.coe_mul]
  norm_num

/-- The weight of the sum of magnitudes. -/
theorem pos_weight : Pos (Ideal.ofBits .f32 0x3DCCCCCD#32) := by
  refine ⟨13421773 / 134217728, by norm_num, ?_⟩
  simp [Ideal.ofBits, Ideal.ieee]
  rw [← EReal.coe_mul]
  norm_num

/-- Infinity divided by a positive finite value. -/
theorem top_div {c : EReal} (h : Pos c) : Ideal.div ⊤ c = ⊤ := by
  obtain ⟨y, hy, rfl⟩ := h
  rw [Ideal.div_coe hy.ne']
  exact EReal.top_mul_coe_of_pos (by positivity)

/-- What is not negative divided by a positive finite value. -/
theorem div_nonneg {v c : EReal} (h : Pos c) (hv : 0 ≤ v) : 0 ≤ Ideal.div v c := by
  obtain ⟨y, hy, rfl⟩ := h
  rw [Ideal.div_coe hy.ne']
  exact EReal.mul_nonneg hv (by exact_mod_cast (by positivity : (0:ℝ) ≤ 1 / y))

/-- What is not negative plus infinity. -/
theorem add_top_of {v : EReal} (h : 0 ≤ v) : v + ⊤ = ⊤ := EReal.add_top_of_ne_bot fun h' => by subst h'; simp at h

section totals
variable {x rec : Fin 128 → Fin 32 → EReal} {one : Fin 128 → EReal}

/-- An infinite sum of magnitudes makes the loss infinite. -/
theorem total_of_one (h0 : ∀ b, 0 ≤ one b) (b : Fin 128) (h : one b = ⊤) : total x rec one = ⊤ := by
  rw [total, sum_top (mem_univ b) h0 h, top_div pos_batch]
  obtain ⟨y, hy, he⟩ := pos_weight
  rw [he, EReal.coe_mul_top_of_pos hy]
  exact add_top_of (div_nonneg pos_count (sum_nonneg fun b _ => sum_nonneg fun t _ => sq_nonneg' _))

/-- An infinite coordinate of a reconstruction makes the loss infinite. -/
theorem total_of_rec (h0 : ∀ b, 0 ≤ one b) (b : Fin 128) (t : Fin 32) (h : Big (rec b t)) : total x rec one = ⊤ := by
  have h1 : ∑ t, (rec b t - x b t) * (rec b t - x b t) = ⊤ := sum_top (mem_univ t) (fun t => sq_nonneg' _) (h.sub _).sq
  have h2 : ∑ b, ∑ t, (rec b t - x b t) * (rec b t - x b t) = ⊤ :=
    sum_top (mem_univ b) (fun b => sum_nonneg fun t _ => sq_nonneg' _) h1
  rw [total, h2, top_div pos_count, add_comm]
  refine add_top_of ?_
  obtain ⟨y, hy, he⟩ := pos_weight
  rw [he]
  exact EReal.mul_nonneg (by exact_mod_cast hy.le) (div_nonneg pos_batch (sum_nonneg fun b _ => h0 b))

/-- The kernel's loss is the reference's. -/
theorem total_eq {J : Type} [Fintype J] [DecidableEq J] (best : (J → EReal) → J) (D : J → Fin 32 → EReal) :
    total x (fun b => krec best D (x b)) (fun b => kone best D (x b)) = total x (fun b => rrec best D (x b)) (fun b => rone best D (x b)) := by
  by_cases h : ∀ b, kone best D (x b) = rone best D (x b) ∧ ∀ t, krec best D (x b) t = rrec best D (x b) t
  · have h1 : (fun b => krec best D (x b)) = fun b => rrec best D (x b) := funext fun b => funext (h b).2
    have h2 : (fun b => kone best D (x b)) = fun b => rone best D (x b) := funext fun b => (h b).1
    rw [h1, h2]
  · obtain ⟨b, hb⟩ := not_forall.1 h
    rcases (agree (best := best) (D := D) (x := x b)).resolve_left hb with ⟨h1, h2⟩ | ⟨t, h1, h2⟩
    · exact (total_of_one (one := fun b => kone best D (x b)) (fun b => kone_nonneg) b h1).trans
        (total_of_one (one := fun b => rone best D (x b)) (fun b => rone_nonneg) b h2).symm
    · exact (total_of_rec (rec := fun b => krec best D (x b)) (one := fun b => kone best D (x b)) (fun b => kone_nonneg) b t h1).trans
        (total_of_rec (rec := fun b => rrec best D (x b)) (one := fun b => rone best D (x b)) (fun b => rone_nonneg) b t h2).symm
end totals

end Cert.Pursuit

end
-- ==== Proof.K.Sample.lean ====
module
public import proofs.«01_k».proof.Proof.K.Point
public import proofs.«01_k».proof.Proof.E.Total

@[expose] public section

set_option maxRecDepth 16384

noncomputable section

/-! The kernel's steps, read at one sample: greedy matching pursuit over the dictionary's rows. -/

namespace Cert.KernelIdeal.Pursuit
open Cert.KernelIdeal Cert.KernelIdeal.Gen Cert.Pursuit
open Idealize.ShloMosaic Idealize.ShloMosaic.TcCoe

variable (E : Vec Ideal S65536x32 .f32) (r x : FVec Ideal S128x32 .f32) (b : Fin 128)

/-- The transposed dictionary. -/
abbrev turned : Vec Ideal S32x65536 .f32 := transpose S32x65536 [1, 0] E transposes_S65536x32_S32x65536_1_0

/-- The packed dictionary. -/
abbrev packs : Vec Ideal S16384x128 .f32 := shapeCast S16384x128 E shapeCasts_S65536x32_S16384x128

/-- A product with a column of the transposed dictionary is one with a row. -/
theorem prod_eq (j : Fin 65536) : prod (turned E) r b j.val = dot (samp r b) (entries E) j := by
  rw [prod, dot]
  refine Finset.sum_congr rfl fun t _ => ?_
  have hj : (⟨j.val % 65536, Nat.mod_lt _ (by decide)⟩ : Fin 65536) = j := Fin.ext (Nat.mod_eq_of_lt j.isLt)
  rw [hj]
  refine congrArg (r (ix2 b t) * ·) ?_
  show turned E (ix2 t j) = E (ix2 j t)
  pointwise [turned]

/-- A packed row holds four rows of the dictionary. -/
theorem packed_eq (j : Fin 65536) (t : Fin 32) : packed (packs E) j.val ⟨32 * (j.val % 4) + t.val, by omega⟩ = wholes (entries E) j t := by
  have hj := j.isLt
  have ht := t.isLt
  rw [packed, wholes, entries]
  refine congrArg whole ?_
  show packs E (ix2 _ _) = _
  pointwise [packs]

/-- The row the sample chooses. -/
abbrev chosen : Fin 65536 := sel best (entries E) (samp r b)

/-- The search finds the chosen row. -/
theorem found_eq : (found (turned E) (packs E) r).1 (ix2 b 0) = mag (dot (samp r b) (entries E) (chosen E r b))
    ∧ (found (turned E) (packs E) r).2.1 (ix2 b 0) = BitVec.ofNat 32 (chosen E r b).val
    ∧ ∀ l, (found (turned E) (packs E) r).2.2.1 (ix2 b l) = packed (packs E) (chosen E r b).val l := by
  obtain ⟨n, h⟩ := found_top (D := turned E) (P := packs E) (r := r) (b := b)
  have hlt := h.lt
  have hn : (⟨n, hlt⟩ : Fin 65536) = chosen E r b := by
    refine eq_best (fun j => ?_) fun j hj => ?_
    · rw [← prod_eq, ← prod_eq]; exact h.le j.val j.isLt
    · rw [← prod_eq, ← prod_eq]; exact h.first j.val j.isLt hj
  have hv : n = (chosen E r b).val := congrArg Fin.val hn
  refine ⟨?_, h.num_eq.trans (by rw [hv]), fun l => (congrFun h.at_eq l).trans (by rw [hv])⟩
  rw [← prod_eq, ← hv]
  exact h.mag_eq

/-- Which of the four rows of a packed row a lane belongs to. -/
theorem group_eq (l : Fin 128) : k0_pay273 (ix2 b l) = BitVec.ofNat 32 (l.val / 32) := by
  pointwise [k0_pay273]
  revert l
  decide

/-- The lanes of the chosen row, cut out of its packed row. -/
theorem cut_eq (i : IVec S128x1 32) (p : FVec Ideal S128x128 .f32) (n : ℕ) (hi : i (ix2 b 0) = BitVec.ofNat 32 n) (t : Fin 32) :
    k0_pay286 (F := Ideal) k0_pay273 i p (ix2 b t) = p (ix2 b ⟨32 * (n % 4) + t.val, by omega⟩) := by
  have ht := t.isLt
  have hg : ∀ l : Fin 128, k0_pay273 (ix2 b l) = IntOp.andi (BitVec.ofNat 32 n) 3#32 ↔ l.val / 32 = n % 4 := by
    intro l
    have hl := l.isLt
    rw [group_eq]
    have h3 : IntOp.andi (BitVec.ofNat 32 n) 3#32 = BitVec.ofNat 32 (n % 4) := by
      apply BitVec.eq_of_toNat_eq
      show (BitVec.ofNat 32 n &&& 3#32).toNat = _
      rw [BitVec.toNat_and, BitVec.toNat_ofNat, BitVec.toNat_ofNat, BitVec.toNat_ofNat]
      rw [show 3 % 2 ^ 32 = 2 ^ 2 - 1 by decide, Nat.and_two_pow_sub_one_eq_mod]
      omega
    rw [h3]
    constructor
    · intro h
      have := congrArg BitVec.toNat h
      simp only [BitVec.toNat_ofNat] at this
      omega
    · intro h; rw [h]
  have hbit : ∀ x y : BitVec 32, IntOp.cmpi .eq x y = 1#1 ↔ x = y := fun x y => by
    show BitVec.ofBool (x == y) = 1#1 ↔ _
    by_cases h : x = y
    · simp [h]
    · rw [beq_eq_false_iff_ne.2 h]; simp [h]
  have hlane : ∀ (k m : ℕ) (hk : k < 4) (hm : m < 128), m = 32 * k + t.val →
      Scalar.select (IntOp.cmpi .eq (k0_pay273 (ix2 b ⟨m, hm⟩)) (IntOp.andi (BitVec.ofNat 32 n) 3#32)) (p (ix2 b ⟨m, hm⟩)) 0
        = if k = n % 4 then p (ix2 b ⟨32 * (n % 4) + t.val, by omega⟩) else 0 := by
    intro k m hk hm hkm
    subst hkm
    rw [Scalar.select]
    refine (if_congr ((hbit _ _).trans (hg _)) rfl rfl).trans ?_
    by_cases h : k = n % 4
    · subst h; rw [if_pos rfl, if_pos (by show (32 * (n % 4) + t.val) / 32 = n % 4; omega)]
    · rw [if_neg h, if_neg fun h' => h (by have : (32 * k + t.val) / 32 = n % 4 := h'; omega)]
  have hn : n % 4 < 4 := Nat.mod_lt _ (by decide)
  pointwise [k0_pay286]
  rw [hi, hlane 0 _ (by decide) _ (by omega), hlane 1 _ (by decide) _ (by omega), hlane 2 _ (by decide) _ (by omega), hlane 3 _ (by decide) _ (by omega)]
  generalize p (ix2 b ⟨32 * (n % 4) + t.val, _⟩) = w
  generalize n % 4 = g at hn
  interval_cases g <;> simp

/-- The row a step reads is the chosen one. -/
theorem rowOf_eq (t : Fin 32) : rowOf (turned E) (packs E) r (ix2 b t) = wholes (entries E) (chosen E r b) t := by
  obtain ⟨-, h2, h3⟩ := found_eq E r b
  rw [rowOf, cut_eq b _ _ _ h2 t, h3, packed_eq]

/-- A sum over the lanes. -/
theorem lanes_eq (a : FVec Ideal S128x32 .f32) : shapeCast S128x1 (multiReduction .add [1] S128 a 0x00000000#32 reduces_S128x32_S128 (.inl rfl) rfl) shapeCasts_S128_S128x1 (ix2 b 0)
    = ∑ t : Fin 32, a (ix2 b t) := by
  pointwise

/-- One where it is not smaller. -/
theorem oge_iff (x y : EReal) : FloatOps.cmpf (F := Ideal) (φ := .f32) .oge x y = 1#1 ↔ y ≤ x := by
  rw [Ideal.cmpf_def]
  by_cases h : y ≤ x <;> simp [Ideal.cmp, h]

/-- A step's coefficient. -/
theorem signed_eq : signed (turned E) (packs E) r (ix2 b 0) = kval best (entries E) (samp r b) := by
  obtain ⟨h1, h2, h3⟩ := found_eq E r b
  rw [signed]
  show Scalar.select (FloatOps.cmpf (F := Ideal) (φ := .f32) .oge
      (shapeCast S128x1 (multiReduction .add [1] S128 (mulf r (rowOf (turned E) (packs E) r)) 0x00000000#32 reduces_S128x32_S128 (.inl rfl) rfl) shapeCasts_S128_S128x1 (ix2 b 0))
      (Ideal.ofBits .f32 0x00000000#32)) ((found (turned E) (packs E) r).1 (ix2 b 0)) (Ideal.ofBits .f32 0x00000000#32 - (found (turned E) (packs E) r).1 (ix2 b 0)) = _
  rw [lanes_eq, Ideal.ofBits_zero_f32, h1, Scalar.select, kval]
  refine if_congr ((oge_iff _ _).trans (Iff.of_eq (congrArg (0 ≤ ·) ?_))) rfl rfl
  refine Finset.sum_congr rfl fun t _ => ?_
  show r (ix2 b t) * rowOf (turned E) (packs E) r (ix2 b t) = _
  rw [rowOf_eq]
  rfl

/-- A step, at the sample. -/
theorem next_eq : samp (next (turned E) (packs E) r) b = knext best (entries E) (samp r b) := by
  funext t
  rw [samp, next, knext, ← rowOf_eq, ← signed_eq]
  pointwise [k0_pay327]
  rfl

/-- The residuals. -/
theorem res_eq (k : ℕ) : samp (res (turned E) (packs E) x k) b = kres best (entries E) (samp x b) k := by
  induction k with
  | zero => rfl
  | succ k ih => rw [res, next_eq, ih]; rfl

/-- Where step `k` looks. -/
theorem placeAt_eq (k : ℕ) : placeAt (turned E) (packs E) x k (ix2 b 0) = BitVec.ofNat 32 (sel best (entries E) (kres best (entries E) (samp x b) k)).val := by
  rw [placeAt, (found_eq E _ b).2.1, chosen, res_eq]

/-- The row step `k` reads. -/
theorem rowAt_eq (k : ℕ) (t : Fin 32) : rowAt (turned E) (packs E) x k (ix2 b t) = wholes (entries E) (sel best (entries E) (kres best (entries E) (samp x b) k)) t := by
  rw [rowAt, rowOf_eq, chosen, res_eq]

/-- An inner product over the lanes. -/
theorem coef_form (g a : FVec Ideal S128x32 .f32) : k0_pay386 g a (ix2 b 0) = ∑ t : Fin 32, a (ix2 b t) * g (ix2 b t) := by
  pointwise [k0_pay386]

/-- The coefficients. -/
theorem coefs_eq (k : ℕ) : coefs (turned E) (packs E) x k (ix2 b 0) = kcoef best (entries E) (samp x b) k := by
  rw [coefs, kcoef]
  split
  · rw [signed_eq, res_eq]
  · rw [coef, coef_form]
    refine Finset.sum_congr rfl fun t _ => ?_
    rw [rowAt_eq]
    exact congrArg (· * _) (congrFun (res_eq E x b 7) t)

end Cert.KernelIdeal.Pursuit

end
-- ==== Proof.K.Blocks.lean ====
module
public import proofs.«01_k».proof.Proof.K.Value
public import Idealize.ShloMosaic.Lib.StableHlo.Run
@[expose] public section
set_option maxRecDepth 16384
noncomputable section
namespace Cert.KernelIdeal.Pursuit
open Cert.KernelIdeal Cert.KernelIdeal.Gen Idealize.ShloMosaic Idealize.ShloMosaic.TcCoe

variable {F : FTy → Type} [FloatOps F] (m : (ℓ : Loc nD τ sig) → Buf (Elt F) ℓ) (c : Dev nD)

/-- The launch's samples. -/
abbrev samples : Vec F S128x32 .f32 := m ((c : Thread nD τ).loc main_arg0)
/-- The launch's dictionary. -/
abbrev dictionary : Vec F S65536x32 .f32 := m ((c : Thread nD τ).loc main_arg1)

/-- The first block is the samples. -/
theorem block0 : (iblk m c 0 pt : Vec F S128x32 .f32) = samples m c := by
  have h : (iblk m c 0 pt : Vec F S128x32 .f32) = V m c main_arg0 := by
    funext i
    refine congrArg (V m c main_arg0) (funext fun a => ?_)
    fin_cases a
    · exact Fin.ext (by show 0 + 1 * (i 0).val = (i 0).val; omega)
    · exact Fin.ext (by show 0 + 1 * (i 1).val = (i 1).val; omega)
  rw [h, V_main_arg0]
/-- The second is the dictionary transposed. -/
theorem block1 : (iblk m c 1 pt : Vec F S32x65536 .f32) = transpose S32x65536 [1, 0] (dictionary m c) transposes_S65536x32_S32x65536_1_0 := by
  have h : (iblk m c 1 pt : Vec F S32x65536 .f32) = V m c main_v0 := by
    funext i
    refine congrArg (V m c main_v0) (funext fun a => ?_)
    fin_cases a
    · exact Fin.ext (by show 0 + 1 * (i 0).val = (i 0).val; omega)
    · exact Fin.ext (by show 0 + 1 * (i 1).val = (i 1).val; omega)
  rw [h]
  unfold V hostOps0
  after_results_simp
/-- The third is the dictionary, four rows to one. -/
theorem block2 : (iblk m c 2 pt : Vec F S16384x128 .f32) = shapeCast S16384x128 (dictionary m c) shapeCasts_S65536x32_S16384x128 := by
  have h : (iblk m c 2 pt : Vec F S16384x128 .f32) = V m c main_v1 := by
    funext i
    refine congrArg (V m c main_v1) (funext fun a => ?_)
    fin_cases a
    · exact Fin.ext (by show 0 + 1 * (i 0).val = (i 0).val; omega)
    · exact Fin.ext (by show 0 + 1 * (i 1).val = (i 1).val; omega)
  rw [h]
  unfold V hostOps0
  after_results_simp
  rfl

/-- The kernel's result, from the launch. -/
theorem result_eq : ((dat m 0 c).arrAt 3 cfg0.N : Vec F S1x1 .f32)
    = out (samples m c) (transpose S32x65536 [1, 0] (dictionary m c) transposes_S65536x32_S32x65536_1_0) (shapeCast S16384x128 (dictionary m c) shapeCasts_S65536x32_S16384x128) := by
  rw [arr_result, resultAt_eq, block0, block1, block2]
end Cert.KernelIdeal.Pursuit
-- ==== Proof.K.Loss.lean ====
module
public import proofs.«01_k».proof.Proof.K.Sample
public import proofs.«01_k».proof.Proof.K.Blocks

@[expose] public section

set_option maxRecDepth 16384

noncomputable section

/-! The kernel's loss, entry by entry. -/

namespace Cert.KernelIdeal.Pursuit
open Cert.KernelIdeal Cert.KernelIdeal.Gen Cert.Pursuit
open Idealize.ShloMosaic Idealize.ShloMosaic.TcCoe

section masks
variable (i : S128x1.Idx)

/-- A disjunction, entry by entry. -/
theorem ori_at (u v : IVec S128x1 1) : ori u v i = 1#1 ↔ u i = 1#1 ∨ v i = 1#1 := ori_iff _ _

/-- An equality, entry by entry. -/
theorem eq_at (u v : IVec S128x1 32) : cmpi .eq u v i = 1#1 ↔ u i = v i := by
  show BitVec.ofBool (u i == v i) = 1#1 ↔ _
  by_cases h : u i = v i
  · simp [h]
  · rw [beq_eq_false_iff_ne.2 h]; simp [h]

/-- The zero bit never holds. -/
theorem zero_at : broadcast S128x1 0#1 i = 1#1 ↔ False := by
  show (0#1 = 1#1) ↔ _
  decide

/-- A mask: zero where the bit holds, else one. -/
theorem mask_at (u : IVec S128x1 1) (q : ℕ → BitVec 32) (k : ℕ) (h : u i = 1#1 ↔ ∃ j < k, q k = q j) :
    select u (broadcast S128x1 (Scalar.ofBits (F := Ideal) .f32 0x00000000#32)) (broadcast S128x1 (Scalar.ofBits (F := Ideal) .f32 0x3F800000#32)) i = fresh q k := by
  show Scalar.select (u i) (Ideal.ofBits .f32 0x00000000#32) (Ideal.ofBits .f32 0x3F800000#32) = _
  rw [Ideal.ofBits_zero_f32, Ideal.ofBits_one_f32, Scalar.select, fresh]
  exact if_congr h rfl rfl

variable (p : ℕ → IVec S128x1 32)

/-- The first step's row is always fresh. -/
theorem mask0 : k0_pay395 (F := Ideal) i = fresh (fun k => p k i) 0 :=
  mask_at i _ _ 0 ((zero_at i).trans (by simp))

/-- Whether the second step's row is fresh. -/
theorem mask1 : k0_pay397 (F := Ideal) (p 0) (p 1) i = fresh (fun k => p k i) 1 :=
  mask_at i _ (fun k => p k i) 1 (by simp only [ori_at, eq_at, zero_at, Nat.exists_lt_succ_right, Nat.not_lt_zero, false_and, exists_false])

/-- Whether the third step's row is fresh. -/
theorem mask2 : k0_pay398 (F := Ideal) (p 0) (p 1) (p 2) i = fresh (fun k => p k i) 2 :=
  mask_at i _ (fun k => p k i) 2 (by simp only [ori_at, eq_at, zero_at, Nat.exists_lt_succ_right, Nat.not_lt_zero, false_and, exists_false])

/-- Whether the fourth step's row is fresh. -/
theorem mask3 : k0_pay399 (F := Ideal) (p 0) (p 1) (p 2) (p 3) i = fresh (fun k => p k i) 3 :=
  mask_at i _ (fun k => p k i) 3 (by simp only [ori_at, eq_at, zero_at, Nat.exists_lt_succ_right, Nat.not_lt_zero, false_and, exists_false])

/-- Whether the fifth step's row is fresh. -/
theorem mask4 : k0_pay402 (F := Ideal) (p 0) (p 1) (p 2) (p 3) (p 4) i = fresh (fun k => p k i) 4 :=
  mask_at i _ (fun k => p k i) 4 (by simp only [ori_at, eq_at, zero_at, Nat.exists_lt_succ_right, Nat.not_lt_zero, false_and, exists_false])

/-- Whether the sixth step's row is fresh. -/
theorem mask5 : k0_pay403 (F := Ideal) (p 0) (p 1) (p 2) (p 3) (p 4) (p 5) i = fresh (fun k => p k i) 5 :=
  mask_at i _ (fun k => p k i) 5 (by simp only [ori_at, eq_at, zero_at, Nat.exists_lt_succ_right, Nat.not_lt_zero, false_and, exists_false])

/-- Whether the seventh step's row is fresh. -/
theorem mask6 : k0_pay407 (F := Ideal) (k0_pay406 (p 0) (p 1) (p 2) (p 3) (p 4) (p 5) (p 6)) i = fresh (fun k => p k i) 6 :=
  mask_at i _ (fun k => p k i) 6 (by simp only [k0_pay406, ori_at, eq_at, zero_at, Nat.exists_lt_succ_right, Nat.not_lt_zero, false_and, exists_false])

/-- Whether the last step's row is fresh. -/
theorem mask7 : k0_pay408 (F := Ideal) (p 0) (p 1) (p 2) (p 3) (p 4) (p 5) (p 6) (p 7) i = fresh (fun k => p k i) 7 :=
  mask_at i _ (fun k => p k i) 7 (by simp only [ori_at, eq_at, zero_at, Nat.exists_lt_succ_right, Nat.not_lt_zero, false_and, exists_false])
end masks

attribute [local irreducible] k0_pay395 k0_pay397 k0_pay398 k0_pay399 k0_pay402 k0_pay403 k0_pay407 k0_pay408 k0_pay406

/-- The loss of coefficients on rows at places. -/
theorem loss_eq (x : FVec Ideal S128x32 .f32) (p : ℕ → IVec S128x1 32) (g : ℕ → FVec Ideal S128x32 .f32) (c : ℕ → FVec Ideal S128x1 .f32) (i : S1x1.Idx) :
    loss x p g c i = total (samp x)
      (fun b t => ∑ k ∈ Finset.range 8, fresh (fun k => p k (ix2 b 0)) k * c k (ix2 b 0) * g k (ix2 b t))
      (fun b => ∑ k ∈ Finset.range 8, fresh (fun k => p k (ix2 b 0)) k * mag (c k (ix2 b 0))) := by
  pointwise [loss, k0_pay1, k0_pay409, k0_pay404, k0_pay400, k0_pay393, k0_pay410, k0_pay405, k0_pay401, k0_pay394]
  have e0 : ∀ b : Fin 128, k0_pay395 (F := Ideal) (ix2 b 0) = fresh (fun k => p k (ix2 b 0)) 0 := fun b => mask0 (ix2 b 0) p
  have e1 := fun b : Fin 128 => mask1 (ix2 b 0) p
  have e2 := fun b : Fin 128 => mask2 (ix2 b 0) p
  have e3 := fun b : Fin 128 => mask3 (ix2 b 0) p
  have e4 := fun b : Fin 128 => mask4 (ix2 b 0) p
  have e5 := fun b : Fin 128 => mask5 (ix2 b 0) p
  have e6 := fun b : Fin 128 => mask6 (ix2 b 0) p
  have e7 := fun b : Fin 128 => mask7 (ix2 b 0) p
  simp only [e0, e1, e2, e3, e4, e5, e6, e7, total, Finset.sum_range_succ, Finset.sum_range_zero, zero_add]
  rfl

/-- Freshness is the same for row numbers and for the words holding them. -/
theorem fresh_word (q : ℕ → Fin 65536) (k : ℕ) :
    fresh (fun k => BitVec.ofNat 32 (q k).val) k = fresh q k := by
  have e : ∀ a b : Fin 65536, BitVec.ofNat 32 a.val = BitVec.ofNat 32 b.val ↔ a = b := fun a b => by
    constructor
    · intro h
      have h2 := congrArg BitVec.toNat h
      simp only [BitVec.toNat_ofNat] at h2
      have := a.isLt
      have := b.isLt
      exact Fin.ext (by omega)
    · rintro rfl; rfl
  unfold fresh
  simp only [e]

/-- The kernel's result, written over the extended reals. -/
theorem out_eq (E : FVec Ideal S65536x32 .f32) (x : FVec Ideal S128x32 .f32) (i : S1x1.Idx) :
    out x (turned E) (packs E) i = total (samp x)
      (fun b => krec best (entries E) (samp x b)) (fun b => kone best (entries E) (samp x b)) := by
  have e : ∀ b : Fin 128, (fun k => placeAt (turned E) (packs E) x k (ix2 b 0))
      = fun k => BitVec.ofNat 32 (sel best (entries E) (kres best (entries E) (samp x b) k)).val :=
    fun b => funext fun k => placeAt_eq E x b k
  rw [out, loss_eq]
  congr 1
  · funext b t
    rw [krec]
    refine Finset.sum_congr rfl fun k _ => ?_
    rw [coefs_eq, rowAt_eq, ← fresh_word]
    rw [e]
  · funext b
    rw [kone]
    refine Finset.sum_congr rfl fun k _ => ?_
    rw [coefs_eq, ← fresh_word]
    rw [e]

end Cert.KernelIdeal.Pursuit

end
-- ==== Proof.R.Value.lean ====
module
public import proofs.«01_k».proof.Proof.R.Run
public import Idealize.ShloMosaic.Lib.Pipeline.Regions
public import Idealize.ShloMosaic.Lib.StableHlo.RunLoop
public import Idealize.ShloMosaic.Lib.StableHlo.RunClose
public import Idealize.ShloMosaic.Lib.StableHlo.RunRead
public import Idealize.ShloMosaic.Lib.Quiescent
public import Idealize.ShloMosaic.PureOps.Ideal

@[expose] public section

set_option maxRecDepth 8000

noncomputable section

/-! What the reference's run leaves, in closed form. -/

namespace Cert.ReferenceIdeal.Pursuit
open Cert.ReferenceIdeal Cert.ReferenceIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

section forms
/-- The inner products of the residuals with the dictionary's rows. -/
def inner (r : FVec Ideal S128x32 .f32) (D : FVec Ideal S65536x32 .f32) : FVec Ideal S128x65536 .f32 :=
  Host.dotGeneral dot_S128x32_S32x65536_S128x65536_1_0_0_1_n_n none r (transpose S32x65536 [1, 0] D transposes_S65536x32_S32x65536_1_0)

/-- The indices a reduction of values with their indices ends at. -/
def argSecond {s t u : Shape} {axes : List (Fin s.rank)} (f : Ideal .f32 × BitVec 32 → Ideal .f32 × BitVec 32 → Ideal .f32 × BitVec 32)
    (x : FVec Ideal s .f32) (y : IVec s 32) (ix : FVec Ideal u .f32) (iy : IVec u 32) (h : s.ReducesTo axes t) (hu : 0 < u.numel) : IVec t 32 :=
  fun j => (Host.argReduce f x y ix iy h hu j).2

/-- Where each sample's largest magnitude is. -/
def place (ip : FVec Ideal S128x65536 .f32) : IVec S128 32 :=
  argSecond reducer_argmax_f32_i32 (Host.absf ip) (iotaInDim S128x65536 32 1) (constant S_ .f32 0xFF800000#32) (constantI S_ 32 0#32)
    reducesTo_S128x65536_S128_d1 h_S_

/-- An index, or counted from the end where negative. -/
def wrap {s : Shape} (n z i : IVec s 32) : IVec s 32 := select (cmpi .slt i z) (addi i n) i

/-- The inner products at one index per sample. -/
def pick (ip : FVec Ideal S128x65536 .f32) (p : IVec S128 32) : FVec Ideal S128x1 .f32 :=
  let i : IVec S128x1x1 32 := shapeCast S128x1x1 (wrap (broadcastInDim S128x1 ![] bcast_S_S128x1 (constantI S_ 32 65536#32)) (broadcastInDim S128x1 ![] bcast_S_S128x1 (constantI S_ 32 0#32))
    (broadcastInDim S128x1 ![0] bcast_S128_S128x1_0 p)) shapeCasts_S128x1_S128x1x1
  select (Host.reduce IntOp.andi (andi (cmpi .sge i (broadcastInDim S128x1x1 ![] bcast_S_S128x1x1 (constantI S_ 32 0#32)))
      (cmpi .sle i (broadcastInDim S128x1x1 ![0, 1, 2] bcast_S1x1x1_S128x1x1_0_1_2 (broadcastInDim S1x1x1 ![2] bcast_S1_S1x1x1_2 (constantI S1 32 65535#32)))))
      (constantI S_ 1 1#1) reducesTo_S128x1x1_S128x1_d2 h_S_)
    (Host.gather gather_S128x65536_S128x1x1_S128x1_n_1_0_0_1_2_11 ip i)
    (broadcastInDim S128x1 ![] bcast_S_S128x1 (constant S_ .f32 0x7FC00000#32))

/-- The dictionary's rows at one index per sample. -/
def rowsOf (D : FVec Ideal S65536x32 .f32) (p : IVec S128 32) : FVec Ideal S128x32 .f32 :=
  Host.gather gather_S65536x32_S128x1_S128x32_1_0_n_n_0_1_132 D (broadcastInDim S128x1 ![0] bcast_S128_S128x1_0
    (wrap (broadcastInDim S128 ![] bcast_S_S128 (constantI S_ 32 65536#32)) (broadcastInDim S128 ![] bcast_S_S128 (constantI S_ 32 0#32)) p))

/-- What one step leaves of the residuals. -/
def next (D : FVec Ideal S65536x32 .f32) (r : FVec Ideal S128x32 .f32) : FVec Ideal S128x32 .f32 :=
  subf r (mulf (broadcastInDim S128x32 ![0, 1] bcast_S128x1_S128x32_0_1 (pick (inner r D) (place (inner r D)))) (rowsOf D (place (inner r D))))

/-- The table with the step's indices written into their row. -/
def record (T : IVec S8x128 32) (k : IVec S_ 32) (p : IVec S128 32) : IVec S8x128 32 :=
  Host.dynamicUpdateSlice T (broadcastInDim S1x128 ![1] bcast_S128_S1x128_1 p)
    (fun a => ((![k, constantI S_ 32 0#32] : Fin 2 → IVec S_ 32) a (Shape.Idx.first h_S_)).toInt) updateFits_S8x128_S1x128

/-- The inner products at eight indices per sample. -/
def picks (ip : FVec Ideal S128x65536 .f32) (p : IVec S128x8 32) : FVec Ideal S128x8 .f32 :=
  let i : IVec S128x8x1 32 := shapeCast S128x8x1 (wrap (broadcastInDim S128x8 ![] bcast_S_S128x8 (constantI S_ 32 65536#32)) (broadcastInDim S128x8 ![] bcast_S_S128x8 (constantI S_ 32 0#32)) p) shapeCasts_S128x8_S128x8x1
  select (Host.reduce IntOp.andi (andi (cmpi .sge i (broadcastInDim S128x8x1 ![] bcast_S_S128x8x1 (constantI S_ 32 0#32)))
      (cmpi .sle i (broadcastInDim S128x8x1 ![0, 1, 2] bcast_S1x1x1_S128x8x1_0_1_2 (broadcastInDim S1x1x1 ![2] bcast_S1_S1x1x1_2 (constantI S1 32 65535#32)))))
      (constantI S_ 1 1#1) reducesTo_S128x8x1_S128x8_d2 h_S_)
    (Host.gather gather_S128x65536_S128x8x1_S128x8_n_1_0_0_1_2_11 ip i)
    (broadcastInDim S128x8 ![] bcast_S_S128x8 (constant S_ .f32 0x7FC00000#32))

/-- Where the coefficients go: sample and index. -/
def spots (p : IVec S128x8 32) : IVec S128x8x2 32 :=
  concatenate S128x8x2 2
    [⟨S128x8x1, broadcastInDim S128x8x1 ![0, 1] bcast_S128x8_S128x8x1_0_1 (broadcastInDim S128x8 ![0, 1] bcast_S128x1_S128x8_0_1
      (wrap (broadcastInDim S128x1 ![] bcast_S_S128x1 (constantI S_ 32 128#32)) (broadcastInDim S128x1 ![] bcast_S_S128x1 (constantI S_ 32 0#32))
        (broadcastInDim S128x1 ![0] bcast_S128_S128x1_0 (iotaInDim S128 32 0))))⟩,
     ⟨S128x8x1, broadcastInDim S128x8x1 ![0, 1] bcast_S128x8_S128x8x1_0_1
      (wrap (broadcastInDim S128x8 ![] bcast_S_S128x8 (constantI S_ 32 65536#32)) (broadcastInDim S128x8 ![] bcast_S_S128x8 (constantI S_ 32 0#32)) p)⟩]
    concatenates_S128x8x1_S128x8x1_S128x8x2_d2

/-- The sparse coefficients. -/
def sparse (ip : FVec Ideal S128x65536 .f32) (p : IVec S128x8 32) : FVec Ideal S128x65536 .f32 :=
  Host.scatter scatter_S128x65536_S128x8x2_S128x8_n_01_01_2 (fun _ b => b)
    (broadcastInDim S128x65536 ![] bcast_S_S128x65536 (constant S_ .f32 0x00000000#32)) (spots p) (picks ip p)

/-- The loss of sparse coefficients. -/
def loss (x : FVec Ideal S128x32 .f32) (D : FVec Ideal S65536x32 .f32) (s : FVec Ideal S128x65536 .f32) : FVec Ideal S1x1 .f32 :=
  let d := subf (Host.dotGeneral dot_S128x65536_S65536x32_S128x32_1_0_0_1_n_n none s D) x
  shapeCast S1x1 (addf
    (Host.divf (Host.reduceAdd (mulf d d) (constant S_ .f32 0x00000000#32) reducesTo_S128x32_S_d0_1 h_S_) (constant S_ .f32 0x45800000#32))
    (mulf (constant S_ .f32 0x3DCCCCCD#32) (Host.divf (Host.reduceAdd (Host.absf s) (constant S_ .f32 0x00000000#32) reducesTo_S128x65536_S_d0_1 h_S_) (constant S_ .f32 0x43000000#32)))) shapeCasts_S_S1x1
end forms

attribute [local irreducible] Host.argReduce Host.gather Host.scatter Host.reduce Host.dynamicUpdateSlice Host.reduceAdd broadcastInDim select cmpi addi andi shapeCast concatenate iotaInDim constantI constant subf mulf addf Host.divf Host.absf transpose

/-- One trip, read at the residuals. -/
theorem step_residual (V : Valuation τ sig (Elt Ideal)) :
    afterL bodyI (after condOps V) (Proc.devRef .tc main_v2_2) = next (V (Proc.devRef .tc main_v2_0)) (V (Proc.devRef .tc main_v2_2)) := by
  simp only [afterL_cons, afterL_nil, trip0, trip1, trip2, trip3, trip4, trip5, trip6, condOps]
  after_reads_simp
  simp -implicitDefEqProofs only [TRef.toBuf, TRef.ofBuf, cast_cast, cast_eq]
  rfl

/-- One trip, read at the inner products. -/
theorem step_inner (V : Valuation τ sig (Elt Ideal)) :
    afterL bodyI (after condOps V) (Proc.devRef .tc main_v2_3) = inner (V (Proc.devRef .tc main_v2_2)) (V (Proc.devRef .tc main_v2_0)) := by
  simp only [afterL_cons, afterL_nil, trip0, trip1, trip2, trip3, trip4, trip5, trip6, condOps]
  after_reads_simp
  rfl

/-- One trip, read at the table of indices. -/
theorem step_table (V : Valuation τ sig (Elt Ideal)) :
    afterL bodyI (after condOps V) (Proc.devRef .tc main_v2_4) = record (V (Proc.devRef .tc main_v2_4)) (V (Proc.devRef .tc main_v2_1))
      (place (inner (V (Proc.devRef .tc main_v2_2)) (V (Proc.devRef .tc main_v2_0)))) := by
  simp only [afterL_cons, afterL_nil, trip0, trip1, trip2, trip3, trip4, trip5, trip6, condOps]
  after_reads_simp
  simp -implicitDefEqProofs only [TRef.toBuf, TRef.ofBuf, cast_cast, cast_eq]
  refine congrArg₂ (fun p s => Host.dynamicUpdateSlice (V (Proc.devRef .tc main_v2_4)) p s updateFits_S8x128_S1x128) ?_ ?_
  · rfl
  · funext a
    match a with
    | ⟨0, _⟩ =>
      simp only [Fin.mk_zero, Fin.zero_eta, Matrix.cons_val_zero, Matrix.cons_val_one]
      after_reads_simp
      rfl
    | ⟨1, _⟩ =>
      simp only [Fin.mk_one, Matrix.cons_val_zero, Matrix.cons_val_one]
      after_reads_simp
      rfl

/-- The operations after the loop, read at the result. -/
theorem tail (V : Valuation τ sig (Elt Ideal)) :
    afterL postI (after condOps V) (Proc.devRef .tc main_v34) = loss (V (Proc.devRef .tc main_arg0)) (V (Proc.devRef .tc main_arg1))
      (sparse (V (Proc.devRef .tc main_v2_3)) (transpose S128x8 [1, 0] (V (Proc.devRef .tc main_v2_4)) transposes_S8x128_S128x8_1_0)) := by
  simp only [afterL_cons, afterL_nil, post0, post1, post2, condOps]
  after_reads_simp
  simp -implicitDefEqProofs only [TRef.toBuf, TRef.ofBuf, cast_cast, cast_eq]
  rfl

end Cert.ReferenceIdeal.Pursuit

end
-- ==== Proof.R.Point.lean ====
module
public import proofs.«01_k».proof.Proof.R.Value
public import proofs.«01_k».proof.Proof.E.Total
public import Idealize.ShloMosaic.Lib.Pointwise
public import Idealize.ShloMosaic.Lib.Routing.OpsOrder
public import Idealize.ShloMosaic.Lib.DynamicIndex

@[expose] public section

set_option maxRecDepth 16384

noncomputable section

/-! The reference's operations, read one entry at a time. -/

namespace Cert.ReferenceIdeal.Pursuit
open Cert.ReferenceIdeal Cert.ReferenceIdeal.Facts₀ Cert.Pursuit
open Idealize.ShloMosaic Idealize.ShloMosaic.TcCoe

/-- A one-hot overwrite folded over a list no item of which is hit leaves the start. -/
theorem foldl_miss {ι α : Type} (c : ι → Prop) [DecidablePred c] (u : ι → α) (a : α) :
    ∀ L : List ι, (∀ n ∈ L, ¬ c n) → L.foldl (fun a n => if c n then u n else a) a = a
  | [], _ => rfl
  | n :: L, h => by
    rw [List.foldl_cons, if_neg (h n (by simp))]
    exact foldl_miss c u a L fun n hn => h n (by simp [hn])

/-- Overwriting with one value leaves that value once an item is hit. -/
theorem foldl_hit {ι α : Type} (c : ι → Prop) [DecidablePred c] (u : ι → α) (v : α) (a : α) :
    ∀ L : List ι, (∀ n ∈ L, c n → u n = v) → (a = v ∨ ∃ n ∈ L, c n) → L.foldl (fun a n => if c n then u n else a) a = v
  | [], _, h => by simpa using h
  | n :: L, hu, h => by
    rw [List.foldl_cons]
    refine foldl_hit c u v _ L (fun n hn => hu n (by simp [hn])) ?_
    by_cases hc : c n
    · left; rw [if_pos hc]; exact hu n (by simp) hc
    · rw [if_neg hc]
      rcases h with h | ⟨m, hm, hcm⟩
      · exact .inl h
      · rcases List.mem_cons.1 hm with rfl | hm
        · exact absurd hcm hc
        · exact .inr ⟨m, hm, hcm⟩

/-- A word holding a row's number, read signed. -/
theorem toInt_row (q : Fin 65536) : (BitVec.ofNat 32 q.val).toInt = q.val := toInt_small (by omega)

/-- A row's number is not negative: it is not counted from the end. -/
theorem wrap_row {s : Shape} (n z i : IVec s 32) (j : s.Idx) (hz : z j = 0#32) {a : ℕ} (ha : a < 65537) (h : i j = BitVec.ofNat 32 a) :
    wrap n z i j = BitVec.ofNat 32 a := by
  have h1 : (i j).slt (z j) = false := by
    rw [hz, h]
    by_contra h2
    have h3 := (slt_iff ha (b := 0) (by omega)).1 (by simpa using h2)
    omega
  show Scalar.select (BitVec.ofBool ((i j).slt (z j))) _ _ = _
  rw [h1]
  exact h

/-- Dimension numbers of a gather of one entry per column index, batched over the samples. -/
abbrev colDims (C : ℕ) (wf : GatherDims.WF S128x65536 ⟨3, ![128, C, 1]⟩ ⟨2, ![128, C]⟩ [] [1] [0] [1] [0] 2 ![1, 1]) :
    GatherDims S128x65536 ⟨3, ![128, C, 1]⟩ ⟨2, ![128, C]⟩ where
  offsetDims := []
  collapsedSliceDims := [1]
  operandBatchingDims := [0]
  startIndicesBatchingDims := [0]
  startIndexMap := [1]
  indexVectorDim := 2
  sliceSizes := ![1, 1]
  wf := wf

/-- The gather reads the entry whose number the index holds. -/
theorem gather_col {C : ℕ} (wf : GatherDims.WF S128x65536 ⟨3, ![128, C, 1]⟩ ⟨2, ![128, C]⟩ [] [1] [0] [1] [0] 2 ![1, 1])
    (x : FVec Ideal S128x65536 .f32) (idx : IVec ⟨3, ![128, C, 1]⟩ 32) (b : Fin 128) (k : Fin C) (q : Fin 65536)
    (h : idx (ix3 b k 0) = BitVec.ofNat 32 q.val) : Host.gather (colDims C wf) x idx (ix2 b k) = x (ix2 b q) := by
  have hs : (colDims C wf).siIdx (ix2 b k) ⟨0, Nat.one_pos⟩ = ix3 b k 0 := by
    funext d
    match d with
    | ⟨0, _⟩ => rfl
    | ⟨1, _⟩ => rfl
    | ⟨2, _⟩ => rfl
  show x ((colDims C wf).operandIdx (ix2 b k) idx) = _
  refine congrArg x (funext fun a => Fin.ext ?_)
  match a with
  | ⟨0, _⟩ =>
    show 0 + b.val + 0 = b.val
    omega
  | ⟨1, _⟩ =>
    show min (idx ((colDims C wf).siIdx (ix2 b k) ⟨0, Nat.one_pos⟩)).toInt.toNat (65536 - 1) + 0 + 0 = q.val
    rw [hs, h, toInt_row]
    have := q.isLt
    omega

/-- The gather of rows reads the row whose number the index holds. -/
theorem gather_row (D : FVec Ideal S65536x32 .f32) (idx : IVec S128x1 32) (b : Fin 128) (t : Fin 32) (q : Fin 65536)
    (h : idx (ix2 b 0) = BitVec.ofNat 32 q.val) : Host.gather gather_S65536x32_S128x1_S128x32_1_0_n_n_0_1_132 D idx (ix2 b t) = D (ix2 q t) := by
  have hs : gather_S65536x32_S128x1_S128x32_1_0_n_n_0_1_132.siIdx (ix2 b t) ⟨0, Nat.one_pos⟩ = ix2 b 0 := by
    funext d
    match d with
    | ⟨0, _⟩ => rfl
    | ⟨1, _⟩ => rfl
  show D (gather_S65536x32_S128x1_S128x32_1_0_n_n_0_1_132.operandIdx (ix2 b t) idx) = _
  refine congrArg D (funext fun a => Fin.ext ?_)
  match a with
  | ⟨0, _⟩ =>
    show min (idx (gather_S65536x32_S128x1_S128x32_1_0_n_n_0_1_132.siIdx (ix2 b t) ⟨0, Nat.one_pos⟩)).toInt.toNat (65536 - 1) + 0 + 0 = q.val
    rw [hs, h, toInt_row]
    have := q.isLt
    omega
  | ⟨1, _⟩ =>
    show 0 + 0 + t.val = t.val
    omega

/-- An inner product, entry by entry. -/
theorem inner_apply (r : FVec Ideal S128x32 .f32) (D : FVec Ideal S65536x32 .f32) (b : Fin 128) (j : Fin 65536) :
    inner r D (ix2 b j) = ∑ t : Fin 32, r (ix2 b t) * D (ix2 j t) := by
  pointwise [inner]

end Cert.ReferenceIdeal.Pursuit

end
-- ==== Proof.R.Best.lean ====
module
public import proofs.«01_k».proof.Proof.R.Point

@[expose] public section

set_option maxRecDepth 16384

noncomputable section

/-! The reference's steps, sample by sample. -/

namespace Cert.ReferenceIdeal.Pursuit
open Cert.ReferenceIdeal Cert.ReferenceIdeal.Facts₀ Cert.Pursuit
open Idealize.ShloMosaic Idealize.ShloMosaic.TcCoe

/-! ### Where the largest magnitude is -/

/-- One pair beats another: larger, or as large and no later. -/
def Beats (p q : Ideal .f32 × BitVec 32) : Prop := q.1 ≤ p.1 ∧ (q.1 = p.1 → p.2.toInt ≤ q.2.toInt)

/-- A pair beats itself. -/
theorem Beats.refl (p : Ideal .f32 × BitVec 32) : Beats p p := ⟨le_rfl, fun _ => le_rfl⟩

/-- Beating is transitive. -/
theorem Beats.trans {p q r : Ideal .f32 × BitVec 32} (h1 : Beats p q) (h2 : Beats q r) : Beats p r :=
  ⟨h2.1.trans h1.1, fun h => by
    have h3 : r.1 = q.1 := le_antisymm h2.1 (h ▸ h1.1)
    exact (h1.2 (h3 ▸ h)).trans (h2.2 h3)⟩

/-- The reducer's result is one of its pairs, and beats both. -/
theorem reducer_beats (p q : Ideal .f32 × BitVec 32) :
    (reducer_argmax_f32_i32 p q = p ∨ reducer_argmax_f32_i32 p q = q)
    ∧ Beats (reducer_argmax_f32_i32 p q) p ∧ Beats (reducer_argmax_f32_i32 p q) q := by
  obtain ⟨a, i⟩ := p
  obtain ⟨b, j⟩ := q
  have hred : reducer_argmax_f32_i32 (F := Ideal) (a, i) (b, j) = if b < a then (a, i) else if a = b ∧ i.toInt < j.toInt then (b, i) else (b, j) := by
    simp only [reducer_argmax_f32_i32, Ideal.cmpf_def, Ideal.cmp]
    have hs : IntOp.cmpi .slt i j = BitVec.ofBool (decide (i.toInt < j.toInt)) := rfl
    rw [hs]
    by_cases h1 : b < a <;> by_cases h2 : a = b <;> by_cases h3 : i.toInt < j.toInt <;>
      simp [h1, h2, h3, Scalar.select, IntOp.ori, IntOp.andi]
  rw [hred]
  split
  · next h => exact ⟨.inl rfl, .refl _, h.le, fun e => absurd e h.ne⟩
  · next h =>
    split
    · next h2 =>
      obtain ⟨rfl, h3⟩ := h2
      exact ⟨.inl rfl, .refl _, le_rfl, fun _ => h3.le⟩
    · next h2 =>
      refine ⟨.inr rfl, ⟨not_lt.1 h, fun e => ?_⟩, .refl _⟩
      by_contra h4
      exact h2 ⟨e, not_le.1 h4⟩

/-- The fold of the reducer is one of the pairs, and beats all of them. -/
theorem foldl_beats (L : List (Ideal .f32 × BitVec 32)) : ∀ p : Ideal .f32 × BitVec 32,
    (L.foldl reducer_argmax_f32_i32 p = p ∨ L.foldl reducer_argmax_f32_i32 p ∈ L)
    ∧ Beats (L.foldl reducer_argmax_f32_i32 p) p ∧ ∀ q ∈ L, Beats (L.foldl reducer_argmax_f32_i32 p) q := by
  induction L with
  | nil => exact fun p => ⟨.inl rfl, .refl _, by simp⟩
  | cons a L ih =>
    intro p
    obtain ⟨h1, h2, h3⟩ := ih (reducer_argmax_f32_i32 p a)
    obtain ⟨g1, g2, g3⟩ := reducer_beats p a
    rw [List.foldl_cons]
    refine ⟨?_, h2.trans g2, fun q hq => ?_⟩
    · rcases h1 with h1 | h1
      · rw [h1]
        rcases g1 with g1 | g1
        · exact .inl g1
        · exact .inr (by rw [g1]; simp)
      · exact .inr (List.mem_cons_of_mem _ h1)
    · rcases List.mem_cons.1 hq with rfl | hq
      · exact h2.trans g3
      · exact h3 q hq

/-- An index's sample, once the row axis is dropped. -/
theorem drop_row (b : Fin 128) (j : Fin 65536) : Shape.ReducesTo.drop reducesTo_S128x65536_S128_d1 (ix2 b j) = ix1 b := by
  funext d
  match d with
  | ⟨0, _⟩ => rfl

/-- The pairs the reducer folds over for one sample. -/
theorem mem_fiber (x : FVec Ideal S128x65536 .f32) (y : IVec S128x65536 32) (b : Fin 128) (p : Ideal .f32 × BitVec 32) :
    p ∈ Host.argReduceFiber x y reducesTo_S128x65536_S128_d1 (ix1 b) ↔ ∃ j : Fin 65536, p = (x (ix2 b j), y (ix2 b j)) := by
  simp only [Host.argReduceFiber, List.mem_map, List.mem_filter, List.mem_finRange, true_and, decide_eq_true_eq]
  constructor
  · rintro ⟨n, hn, rfl⟩
    generalize S128x65536.rowMajor.symm n = i at hn ⊢
    obtain ⟨b', j, rfl⟩ : ∃ b' j, i = ix2 b' j := ⟨i 0, i 1, eq_ix2 i⟩
    rw [drop_row] at hn
    have hb : b' = b := congrFun hn 0
    exact ⟨j, by rw [hb]⟩
  · rintro ⟨j, rfl⟩
    exact ⟨S128x65536.rowMajor (ix2 b j), by rw [Equiv.symm_apply_apply]; exact drop_row b j, by rw [Equiv.symm_apply_apply]⟩

/-- The pattern maxima start from is minus infinity. -/
theorem low_bits : Ideal.ofBits .f32 0xFF800000#32 = ⊥ := by simp [Ideal.ofBits, Ideal.ieee]

/-- A magnitude is not minus infinity. -/
theorem mag_ne_bot (v : EReal) : mag v ≠ ⊥ := fun h => by
  have h1 : v ≤ ⊥ := h ▸ le_max_left _ _
  have h2 : -v ≤ ⊥ := h ▸ le_max_right _ _
  rw [le_bot_iff.1 h1] at h2
  simp at h2

/-- The fold over every row's magnitude and number ends at the best row's number. -/
theorem foldl_best (v : Fin 65536 → EReal) (L : List (Ideal .f32 × BitVec 32)) (z : EReal) (hz : z = ⊥) (w : BitVec 32)
    (hL : ∀ p, p ∈ L ↔ ∃ j : Fin 65536, p = (mag (v j), BitVec.ofNat 32 j.val)) :
    (L.foldl reducer_argmax_f32_i32 (z, w)).2 = BitVec.ofNat 32 (best v).val := by
  obtain ⟨h1, h2, h3⟩ := foldl_beats L (z, w)
  have h4 : ∀ j : Fin 65536, Beats (L.foldl reducer_argmax_f32_i32 (z, w)) (mag (v j), BitVec.ofNat 32 j.val) := fun j => h3 _ ((hL _).2 ⟨j, rfl⟩)
  have h5 : ∃ j : Fin 65536, L.foldl reducer_argmax_f32_i32 (z, w) = (mag (v j), BitVec.ofNat 32 j.val) := by
    rcases h1 with h1 | h1
    · exfalso
      have h6 := (h4 (best v)).1
      rw [h1, hz] at h6
      exact mag_ne_bot _ (le_bot_iff.1 h6)
    · exact (hL _).1 h1
  obtain ⟨k, hk⟩ := h5
  rw [hk] at h4 ⊢
  have he : k = best v := by
    refine eq_best (fun j => (h4 j).1) fun j hj => lt_of_le_of_ne (h4 j).1 fun he => ?_
    have h6 := (h4 j).2 he
    simp only [toInt_row] at h6
    have : j.val < k.val := hj
    omega
  rw [he]

/-- A sample's pairs: each row's magnitude and number. -/
theorem pair_apply (ip : FVec Ideal S128x65536 .f32) (b : Fin 128) (j : Fin 65536) :
    ((Host.absf ip (ix2 b j), iotaInDim S128x65536 32 1 (ix2 b j)) : Ideal .f32 × BitVec 32) = (mag (ip (ix2 b j)), BitVec.ofNat 32 j.val) := rfl

/-- A constant array, entry by entry. -/
theorem constant_at (S : Shape) (w : BitVec 32) (i : S.Idx) : constant (F := Ideal) S .f32 w i = Ideal.ofBits .f32 w := rfl

end Cert.ReferenceIdeal.Pursuit

end
-- ==== Proof.R.Sample.lean ====
module
public import proofs.«01_k».proof.Proof.R.Best

@[expose] public section

set_option maxRecDepth 16384

noncomputable section

/-! The reference's steps, sample by sample. -/

namespace Cert.ReferenceIdeal.Pursuit
open Cert.ReferenceIdeal Cert.ReferenceIdeal.Facts₀ Cert.Pursuit
open Idealize.ShloMosaic Idealize.ShloMosaic.TcCoe

/-- The index the reducer's fold over a fiber ends at. -/
theorem argReduce_fold {s t u : Shape} {axes : List (Fin s.rank)} (f : Ideal .f32 × BitVec 32 → Ideal .f32 × BitVec 32 → Ideal .f32 × BitVec 32)
    (x : FVec Ideal s .f32) (y : IVec s 32) (ix : FVec Ideal u .f32) (iy : IVec u 32) (h : s.ReducesTo axes t) (hu : 0 < u.numel) (j : t.Idx) :
    argSecond f x y ix iy h hu j = ((Host.argReduceFiber x y h j).foldl f (ix (Shape.Idx.first hu), iy (Shape.Idx.first hu))).2 := by
  unfold argSecond
  rw [Ideal.argReduce_eq_reduce2, Host.reduce2_eq_foldl_fiber]

/-- A sample's pairs. -/
theorem fiber_apply (ip : FVec Ideal S128x65536 .f32) (b : Fin 128) (p : Ideal .f32 × BitVec 32) :
    p ∈ Host.argReduceFiber (Host.absf ip) (iotaInDim S128x65536 32 1) reducesTo_S128x65536_S128_d1 (ix1 b)
      ↔ ∃ j : Fin 65536, p = (mag (ip (ix2 b j)), BitVec.ofNat 32 j.val) := by
  rw [mem_fiber]
  simp only [pair_apply]

/-- The value the fold starts at. -/
theorem start_low : constant (F := Ideal) S_ .f32 0xFF800000#32 (Shape.Idx.first h_S_) = ⊥ := (constant_at S_ _ _).trans low_bits

/-- Where the largest magnitude of a sample's inner products is. -/
theorem place_apply (ip : FVec Ideal S128x65536 .f32) (b : Fin 128) :
    place ip (ix1 b) = BitVec.ofNat 32 (best fun j : Fin 65536 => ip (ix2 b j)).val :=
  (argReduce_fold reducer_argmax_f32_i32 (Host.absf ip) (iotaInDim S128x65536 32 1) (constant S_ .f32 0xFF800000#32) (constantI S_ 32 0#32)
    reducesTo_S128x65536_S128_d1 h_S_ (ix1 b)).trans (foldl_best (fun j => ip (ix2 b j)) _ _ start_low _ (fiber_apply ip b))

/-! ### The gathers -/

/-- A row's number is in bounds. -/
theorem in_bounds (q : Fin 65536) : IntOp.andi (IntOp.cmpi .sge (BitVec.ofNat 32 q.val) 0#32) (IntOp.cmpi .sle (BitVec.ofNat 32 q.val) 65535#32) = 1#1 := by
  have h1 : IntOp.cmpi .sge (BitVec.ofNat 32 q.val) 0#32 = 1#1 := by
    show BitVec.ofBool ((0#32).sle (BitVec.ofNat 32 q.val)) = 1#1
    rw [BitVec.sle_iff_toInt_le.2 (by rw [toInt_row]; simp)]; rfl
  have h2 : IntOp.cmpi .sle (BitVec.ofNat 32 q.val) 65535#32 = 1#1 := by
    show BitVec.ofBool ((BitVec.ofNat 32 q.val).sle 65535#32) = 1#1
    rw [BitVec.sle_iff_toInt_le.2 (by rw [toInt_row]; have := q.isLt; show (q.val : Int) ≤ 65535; omega)]; rfl
  rw [h1, h2]; rfl

/-- The inner product at an index in bounds, one index per sample. -/
theorem pick_form (ip : FVec Ideal S128x65536 .f32) (W : IVec S128x1 32) (b : Fin 128) (q : Fin 65536) (h : W (ix2 b 0) = BitVec.ofNat 32 q.val) :
    select (Host.reduce IntOp.andi (andi (cmpi .sge (shapeCast S128x1x1 W shapeCasts_S128x1_S128x1x1) (broadcastInDim S128x1x1 ![] bcast_S_S128x1x1 (constantI S_ 32 0#32)))
        (cmpi .sle (shapeCast S128x1x1 W shapeCasts_S128x1_S128x1x1) (broadcastInDim S128x1x1 ![0, 1, 2] bcast_S1x1x1_S128x1x1_0_1_2 (broadcastInDim S1x1x1 ![2] bcast_S1_S1x1x1_2 (constantI S1 32 65535#32)))))
        (constantI S_ 1 1#1) reducesTo_S128x1x1_S128x1_d2 h_S_)
      (Host.gather gather_S128x65536_S128x1x1_S128x1_n_1_0_0_1_2_11 ip (shapeCast S128x1x1 W shapeCasts_S128x1_S128x1x1))
      (broadcastInDim S128x1 ![] bcast_S_S128x1 (constant S_ .f32 0x7FC00000#32)) (ix2 b 0) = ip (ix2 b q) := by
  have hg : Host.gather gather_S128x65536_S128x1x1_S128x1_n_1_0_0_1_2_11 ip (shapeCast S128x1x1 W shapeCasts_S128x1_S128x1x1) (ix2 b 0) = ip (ix2 b q) :=
    gather_col (C := 1) _ ip _ b 0 q (by pointwise; exact h)
  pointwise
  rw [hg, h, in_bounds]
  simp [Scalar.select, IntOp.andi]

/-- The inner product at an index in bounds, eight indices per sample. -/
theorem picks_form (ip : FVec Ideal S128x65536 .f32) (W : IVec S128x8 32) (b : Fin 128) (k : Fin 8) (q : Fin 65536) (h : W (ix2 b k) = BitVec.ofNat 32 q.val) :
    select (Host.reduce IntOp.andi (andi (cmpi .sge (shapeCast S128x8x1 W shapeCasts_S128x8_S128x8x1) (broadcastInDim S128x8x1 ![] bcast_S_S128x8x1 (constantI S_ 32 0#32)))
        (cmpi .sle (shapeCast S128x8x1 W shapeCasts_S128x8_S128x8x1) (broadcastInDim S128x8x1 ![0, 1, 2] bcast_S1x1x1_S128x8x1_0_1_2 (broadcastInDim S1x1x1 ![2] bcast_S1_S1x1x1_2 (constantI S1 32 65535#32)))))
        (constantI S_ 1 1#1) reducesTo_S128x8x1_S128x8_d2 h_S_)
      (Host.gather gather_S128x65536_S128x8x1_S128x8_n_1_0_0_1_2_11 ip (shapeCast S128x8x1 W shapeCasts_S128x8_S128x8x1))
      (broadcastInDim S128x8 ![] bcast_S_S128x8 (constant S_ .f32 0x7FC00000#32)) (ix2 b k) = ip (ix2 b q) := by
  have hg : Host.gather gather_S128x65536_S128x8x1_S128x8_n_1_0_0_1_2_11 ip (shapeCast S128x8x1 W shapeCasts_S128x8_S128x8x1) (ix2 b k) = ip (ix2 b q) :=
    gather_col (C := 8) _ ip _ b k q (by pointwise; exact h)
  pointwise
  rw [hg, h, in_bounds]
  simp [Scalar.select, IntOp.andi]

/-- The inner product at a sample's index. -/
theorem pick_apply (ip : FVec Ideal S128x65536 .f32) (p : IVec S128 32) (b : Fin 128) (q : Fin 65536) (h : p (ix1 b) = BitVec.ofNat 32 q.val) :
    pick ip p (ix2 b 0) = ip (ix2 b q) :=
  pick_form ip _ b q (wrap_row _ _ _ _ rfl (q.isLt.trans (by decide)) (by pointwise; exact h))

/-- The inner product at one of a sample's eight indices. -/
theorem picks_apply (ip : FVec Ideal S128x65536 .f32) (p : IVec S128x8 32) (b : Fin 128) (k : Fin 8) (q : Fin 65536) (h : p (ix2 b k) = BitVec.ofNat 32 q.val) :
    picks ip p (ix2 b k) = ip (ix2 b q) :=
  picks_form ip _ b k q (wrap_row _ _ _ _ rfl (q.isLt.trans (by decide)) h)

/-- The dictionary's row at a sample's index. -/
theorem rowsOf_apply (D : FVec Ideal S65536x32 .f32) (p : IVec S128 32) (b : Fin 128) (t : Fin 32) (q : Fin 65536) (h : p (ix1 b) = BitVec.ofNat 32 q.val) :
    rowsOf D p (ix2 b t) = D (ix2 q t) := by
  refine gather_row D _ b t q ?_
  pointwise
  refine wrap_row _ _ _ _ rfl ?_ h
  have := q.isLt; omega

end Cert.ReferenceIdeal.Pursuit

end
-- ==== Proof.R.Sparse.lean ====
module
public import proofs.«01_k».proof.Proof.R.Sample

@[expose] public section

set_option maxRecDepth 16384

noncomputable section

/-! The reference's sparse coefficients, its loss, and its table of indices, entry by entry. -/

namespace Cert.ReferenceIdeal.Pursuit
open Cert.ReferenceIdeal Cert.ReferenceIdeal.Facts₀ Cert.Pursuit
open Idealize.ShloMosaic Idealize.ShloMosaic.TcCoe

/-- The sample a spot names. -/
theorem spots_sample (p : IVec S128x8 32) (b : Fin 128) (k : Fin 8) : spots p (ix3 b k 0) = BitVec.ofNat 32 b.val := by
  have hw : wrap (broadcastInDim S128x1 ![] bcast_S_S128x1 (constantI S_ 32 128#32)) (broadcastInDim S128x1 ![] bcast_S_S128x1 (constantI S_ 32 0#32))
      (broadcastInDim S128x1 ![0] bcast_S128_S128x1_0 (iotaInDim S128 32 0)) (ix2 b 0) = BitVec.ofNat 32 b.val :=
    wrap_row _ _ _ _ rfl (b.isLt.trans (by decide)) (by pointwise)
  unfold spots
  refine Eq.trans ?_ hw
  pointwise

/-- The row a spot names. -/
theorem spots_row (p : IVec S128x8 32) (b : Fin 128) (k : Fin 8) (q : Fin 65536) (h : p (ix2 b k) = BitVec.ofNat 32 q.val) :
    spots p (ix3 b k 1) = BitVec.ofNat 32 q.val := by
  have hw : wrap (broadcastInDim S128x8 ![] bcast_S_S128x8 (constantI S_ 32 65536#32)) (broadcastInDim S128x8 ![] bcast_S_S128x8 (constantI S_ 32 0#32)) p (ix2 b k) = BitVec.ofNat 32 q.val :=
    wrap_row _ _ _ _ rfl (q.isLt.trans (by decide)) h
  unfold spots
  refine Eq.trans ?_ hw
  pointwise

/-- Where an update lands. -/
theorem lands (I : IVec S128x8x2 32) (b : Fin 128) (k : Fin 8) (q : Fin 65536) (h0 : I (ix3 b k 0) = BitVec.ofNat 32 b.val)
    (h1 : I (ix3 b k 1) = BitVec.ofNat 32 q.val) : scatter_S128x65536_S128x8x2_S128x8_n_01_01_2.resultIdx? (ix2 b k) I = some (ix2 b q) := by
  have s0 : scatter_S128x65536_S128x8x2_S128x8_n_01_01_2.siIdx (ix2 b k) ⟨0, by decide⟩ = ix3 b k 0 := by
    funext d
    match d with
    | ⟨0, _⟩ => rfl
    | ⟨1, _⟩ => rfl
    | ⟨2, _⟩ => rfl
  have s1 : scatter_S128x65536_S128x8x2_S128x8_n_01_01_2.siIdx (ix2 b k) ⟨1, by decide⟩ = ix3 b k 1 := by
    funext d
    match d with
    | ⟨0, _⟩ => rfl
    | ⟨1, _⟩ => rfl
    | ⟨2, _⟩ => rfl
  have e0 : scatter_S128x65536_S128x8x2_S128x8_n_01_01_2.start (ix2 b k) I 0 + scatter_S128x65536_S128x8x2_S128x8_n_01_01_2.window (ix2 b k) 0 = b.val := by
    show (I (scatter_S128x65536_S128x8x2_S128x8_n_01_01_2.siIdx (ix2 b k) ⟨0, _⟩)).toInt + ((0 : ℕ) : ℤ) = b.val
    rw [s0, h0, toInt_small (b.isLt.trans (by decide))]
    simp
  have e1 : scatter_S128x65536_S128x8x2_S128x8_n_01_01_2.start (ix2 b k) I 1 + scatter_S128x65536_S128x8x2_S128x8_n_01_01_2.window (ix2 b k) 1 = q.val := by
    show (I (scatter_S128x65536_S128x8x2_S128x8_n_01_01_2.siIdx (ix2 b k) ⟨1, _⟩)).toInt + ((0 : ℕ) : ℤ) = q.val
    rw [s1, h1, toInt_row]
    simp
  rw [ScatterDims.resultIdx?, dif_pos]
  · refine congrArg some (funext fun a => Fin.ext ?_)
    match a with
    | ⟨0, _⟩ => show (_ + _ : ℤ).toNat = b.val; rw [show (⟨0, by decide⟩ : Fin 2) = 0 from rfl]; exact (congrArg Int.toNat e0).trans (by simp)
    | ⟨1, _⟩ => exact (congrArg Int.toNat e1).trans (by simp)
  · intro a
    match a with
    | ⟨0, _⟩ =>
      have := b.isLt
      have e : 0 ≤ (b.val : ℤ) ∧ (b.val : ℤ) < 128 := by omega
      rw [← e0] at e; exact e
    | ⟨1, _⟩ =>
      have := q.isLt
      have e : 0 ≤ (q.val : ℤ) ∧ (q.val : ℤ) < 65536 := by omega
      rw [← e1] at e; exact e

open Classical in
/-- The sparse coefficients: a sample's inner product where one of its indices is, else zero. -/
theorem sparse_apply (ip : FVec Ideal S128x65536 .f32) (p : IVec S128x8 32) (q : Fin 128 → Fin 8 → Fin 65536)
    (h : ∀ b k, p (ix2 b k) = BitVec.ofNat 32 (q b k).val) (b : Fin 128) (j : Fin 65536) :
    sparse ip p (ix2 b j) = if ∃ k, q b k = j then ip (ix2 b j) else 0 := by
  have hl : ∀ n : Fin S128x8.numel, ∃ b' k, S128x8.rowMajor.symm n = ix2 b' k := fun n => ⟨_, _, eq_ix2 _⟩
  have hr : ∀ b' k, scatter_S128x65536_S128x8x2_S128x8_n_01_01_2.resultIdx? (ix2 b' k) (spots p) = some (ix2 b' (q b' k)) :=
    fun b' k => lands _ b' k _ (spots_sample p b' k) (spots_row p b' k _ (h b' k))
  have hz : broadcastInDim S128x65536 ![] bcast_S_S128x65536 (constant (F := Ideal) S_ .f32 0x00000000#32) (ix2 b j) = 0 := by
    pointwise
  rw [sparse, ← Routing.scatterIn_finRange, Routing.scatterIn_at]
  split
  · next he =>
    obtain ⟨k, hk⟩ := he
    refine foldl_hit _ _ _ _ _ (fun n _ hn => ?_) (.inr ⟨S128x8.rowMajor (ix2 b k), List.mem_finRange _, ?_⟩)
    · obtain ⟨b', k', e⟩ := hl n
      rw [e] at hn ⊢
      rw [hr] at hn
      have h2 := Option.some.inj hn
      have hb : b' = b := congrFun h2 0
      have hq : q b' k' = j := congrFun h2 1
      subst hb
      rw [picks_apply ip p b' k' _ (h b' k'), hq]
    · rw [Equiv.symm_apply_apply, hr, hk]
  · next he =>
    rw [foldl_miss _ _ _ _ fun n _ hn => ?_, hz]
    obtain ⟨b', k', e⟩ := hl n
    rw [e, hr] at hn
    have h2 := Option.some.inj hn
    have hb : b' = b := congrFun h2 0
    have hq : q b' k' = j := congrFun h2 1
    subst hb
    exact he ⟨k', hq⟩

/-- A total over a two-axis array, axis by axis. -/
theorem sum_pairs {M N : ℕ} (f : (⟨2, ![M, N]⟩ : Shape).Idx → EReal) : ∑ i, f i = ∑ b : Fin M, ∑ t : Fin N, f (ix2 b t) := by
  rw [← Fintype.sum_prod_type']
  exact (Fintype.sum_bijective (fun x : Fin M × Fin N => (ix2 x.1 x.2 : (⟨2, ![M, N]⟩ : Shape).Idx))
    ⟨fun x y h => Prod.ext (congrFun h 0) (congrFun h 1), fun i => ⟨(i 0, i 1), (eq_ix2 i).symm⟩⟩ _ _ fun x => rfl).symm

/-- The loss of sparse coefficients. -/
theorem loss_apply (x : FVec Ideal S128x32 .f32) (D : FVec Ideal S65536x32 .f32) (s : FVec Ideal S128x65536 .f32) (i : S1x1.Idx) :
    loss x D s i = total (samp x) (fun b t => ∑ j : Fin 65536, s (ix2 b j) * D (ix2 j t)) (fun b => ∑ j : Fin 65536, mag (s (ix2 b j))) := by
  pointwise [loss]
  rfl

/-- The table with one more row recorded. -/
theorem record_apply (T : IVec S8x128 32) (k : ℕ) (hk : k < 8) (p : IVec S128 32) (a : Fin 8) (b : Fin 128) :
    record T (constantI S_ 32 (BitVec.ofNat 32 k)) p (ix2 a b) = if a.val = k then p (ix1 b) else T (ix2 a b) := by
  have c0 : Host.clampedStart S8x128 S1x128 rfl (fun a => ((![constantI S_ 32 (BitVec.ofNat 32 k), constantI S_ 32 0#32] : Fin 2 → IVec S_ 32) a (Shape.Idx.first h_S_)).toInt) 0 = k := by
    show (min (max (BitVec.ofNat 32 k).toInt 0) 7).toNat = k
    rw [toInt_small (by omega)]
    omega
  have c1 : Host.clampedStart S8x128 S1x128 rfl (fun a => ((![constantI S_ 32 (BitVec.ofNat 32 k), constantI S_ 32 0#32] : Fin 2 → IVec S_ 32) a (Shape.Idx.first h_S_)).toInt) 1 = 0 := by
    rfl
  pointwise [record]
  simp only [c0, c1]
  by_cases h : a.val = k
  · rw [dif_pos (by omega), if_pos h]
    rfl
  · rw [dif_neg (by omega), if_neg h]

end Cert.ReferenceIdeal.Pursuit

end
-- ==== Proof.R.Trips.lean ====
module
public import proofs.«01_k».proof.Proof.R.Sparse

@[expose] public section

set_option maxRecDepth 16384

noncomputable section

/-! What eight trips leave, and the reference's result over the extended reals. -/

namespace Cert.ReferenceIdeal.Pursuit
open Cert.ReferenceIdeal Cert.ReferenceIdeal.Facts₀ Cert.Pursuit
open Idealize.ShloMosaic Idealize.ShloMosaic.TcCoe
open Idealize.ShloMosaic.StableHlo

/-- The residuals before each step. -/
def res (D : FVec Ideal S65536x32 .f32) (x : FVec Ideal S128x32 .f32) : ℕ → FVec Ideal S128x32 .f32
  | 0 => x
  | k + 1 => next D (res D x k)

section steps
variable (D : FVec Ideal S65536x32 .f32) (x r : FVec Ideal S128x32 .f32) (b : Fin 128)

/-- A sample's inner products. -/
theorem inner_eq (j : Fin 65536) : inner r D (ix2 b j) = dot (samp r b) (entries D) j := inner_apply r D b j

/-- Where a sample's largest inner product is. -/
theorem place_eq : place (inner r D) (ix1 b) = BitVec.ofNat 32 (sel best (entries D) (samp r b)).val := by
  rw [place_apply, sel]
  congr 3
  exact funext fun j => inner_eq D r b j

/-- One step, sample by sample. -/
theorem next_eq : samp (next D r) b = rnext best (entries D) (samp r b) := by
  funext t
  have h1 := pick_apply (inner r D) _ b _ (place_eq D r b)
  have h2 := rowsOf_apply D _ b t _ (place_eq D r b)
  rw [inner_eq] at h1
  show next D r (ix2 b t) = _
  unfold next
  generalize pick _ _ = P at *
  generalize rowsOf _ _ = Q at *
  pointwise
  rw [h1, h2]
  rfl

/-- The residuals before each step, sample by sample. -/
theorem res_eq (k : ℕ) : samp (res D x k) b = rres best (entries D) (samp x b) k := by
  induction k with
  | zero => rfl
  | succ k ih => rw [res, next_eq, ih]; rfl
end steps

section trips
variable (m : (ℓ : Loc nD τ sig) → Buf (Elt Ideal) ℓ) (c : Dev nD)

/-- The dictionary at launch. -/
abbrev dictionary : FVec Ideal S65536x32 .f32 := m ((c.tc : Thread nD τ).loc main_arg1)

/-- The samples at launch. -/
abbrev samples : FVec Ideal S128x32 .f32 := m ((c.tc : Thread nD τ).loc main_arg0)

/-- The residuals before trip `k`. -/
theorem at_res (k : ℕ) : atK m k c (Proc.devRef .tc main_v2_2) = res (dictionary m c) (samples m c) k := by
  induction k with
  | zero => exact (at_entry _).2.2.2
  | succ k ih => exact (step_residual (atK m k c)).trans (by rw [(kept_at m c k).2.2, ih]; rfl)

/-- The inner products after trip `k`. -/
theorem at_inner (k : ℕ) : atK m (k + 1) c (Proc.devRef .tc main_v2_3) = inner (res (dictionary m c) (samples m c) k) (dictionary m c) :=
  (step_inner (atK m k c)).trans (by rw [(kept_at m c k).2.2, at_res])

/-- The table before trip `k` holds the indices of the trips before. -/
theorem at_table (k : ℕ) (hk : k ≤ 8) (a : Fin 8) (ha : a.val < k) (b : Fin 128) :
    (atK m k c (Proc.devRef .tc main_v2_4) : IVec S8x128 32) (ix2 a b) = place (inner (res (dictionary m c) (samples m c) a.val) (dictionary m c)) (ix1 b) := by
  induction k with
  | zero => omega
  | succ k ih =>
    have h : atK m (k + 1) c (Proc.devRef .tc main_v2_4) = record (atK m k c (Proc.devRef .tc main_v2_4)) (constantI S_ 32 (BitVec.ofNat 32 k))
        (place (inner (res (dictionary m c) (samples m c) k) (dictionary m c))) :=
      (step_table (atK m k c)).trans (by rw [(kept_at m c k).2.2, at_res, ctr_at])
    rw [h, record_apply _ k (by omega)]
    split
    · next he => rw [he]
    · next he => exact ih (by omega) (by omega)

/-- The reference's result, in closed form. -/
theorem out_form : out m c = loss (samples m c) (dictionary m c) (sparse (inner (res (dictionary m c) (samples m c) 7) (dictionary m c))
    (transpose S128x8 [1, 0] (atK m 8 c (Proc.devRef .tc main_v2_4) : IVec S8x128 32) transposes_S8x128_S128x8_1_0)) :=
  (tail (atK m 8 c)).trans (by rw [(kept_at m c 8).1, (kept_at m c 8).2.1, at_inner m c 7])

/-- The sparse coefficients, sample by sample. -/
theorem coefs_eq (b : Fin 128) (j : Fin 65536) :
    sparse (inner (res (dictionary m c) (samples m c) 7) (dictionary m c))
      (transpose S128x8 [1, 0] (atK m 8 c (Proc.devRef .tc main_v2_4) : IVec S8x128 32) transposes_S8x128_S128x8_1_0) (ix2 b j)
    = rcoef best (entries (dictionary m c)) (samp (samples m c) b) j := by
  classical
  have ht : ∀ b (k : Fin 8), transpose S128x8 [1, 0] (atK m 8 c (Proc.devRef .tc main_v2_4) : IVec S8x128 32) transposes_S8x128_S128x8_1_0 (ix2 b k)
      = BitVec.ofNat 32 (sel best (entries (dictionary m c)) (rres best (entries (dictionary m c)) (samp (samples m c) b) k.val)).val := fun b k => by
    rw [← res_eq, ← place_eq, ← at_table m c 8 le_rfl k k.isLt b]
    generalize (atK m 8 c (Proc.devRef .tc main_v2_4) : IVec S8x128 32) = T
    pointwise
  rw [sparse_apply _ _ _ ht, inner_eq, res_eq, rcoef]
  have hi : (∃ k : Fin 8, sel best (entries (dictionary m c)) (rres best (entries (dictionary m c)) (samp (samples m c) b) k.val) = j)
      ↔ ∃ k < 8, sel best (entries (dictionary m c)) (rres best (entries (dictionary m c)) (samp (samples m c) b) k) = j :=
    ⟨fun ⟨k, hk⟩ => ⟨k.val, k.isLt, hk⟩, fun ⟨k, hk, e⟩ => ⟨⟨k, hk⟩, e⟩⟩
  by_cases h : ∃ k : Fin 8, sel best (entries (dictionary m c)) (rres best (entries (dictionary m c)) (samp (samples m c) b) k.val) = j
  · rw [if_pos h, if_pos (hi.1 h)]
  · rw [if_neg h, if_neg fun h2 => h (hi.2 h2)]

/-- The loss of the sparse coefficients, over the extended reals. -/
theorem loss_eq (x : FVec Ideal S128x32 .f32) (D : FVec Ideal S65536x32 .f32) (s : FVec Ideal S128x65536 .f32)
    (hs : ∀ b j, s (ix2 b j) = rcoef best (entries D) (samp x b) j) (i : S1x1.Idx) :
    loss x D s i = total (samp x) (fun b => rrec best (entries D) (samp x b)) (fun b => rone best (entries D) (samp x b)) := by
  rw [loss_apply]
  refine congrArg₂ (total (samp x)) (funext fun b => funext fun t => ?_) (funext fun b => ?_)
  · rw [rrec]
    refine Finset.sum_congr rfl fun j _ => ?_
    rw [hs]
    rfl
  · rw [rone]
    refine Finset.sum_congr rfl fun j _ => ?_
    rw [hs]

/-- The reference's result, written over the extended reals. -/
theorem out_eq (i : S1x1.Idx) : (out m c : FVec Ideal S1x1 .f32) i = total (samp (samples m c))
    (fun b => rrec best (entries (dictionary m c)) (samp (samples m c) b)) (fun b => rone best (entries (dictionary m c)) (samp (samples m c) b)) :=
  (congrFun (out_form m c) i).trans (loss_eq _ _ _ (coefs_eq m c) i)
end trips

end Cert.ReferenceIdeal.Pursuit

end
-- ==== Proof.Equal.lean ====
module
public import proofs.«01_k».proof.Defs
public import proofs.«01_k».proof.Proof.K.Loss
public import proofs.«01_k».proof.Proof.K.Frame
public import proofs.«01_k».proof.Proof.R.Trips

@[expose] public section

set_option maxRecDepth 16384

noncomputable section

/-! The kernel and the reference end at the same loss. -/

namespace Cert.Pursuit
open Idealize.ShloMosaic Idealize.SL.Sem

/-- From the same arguments the reference's loss is the kernel's. -/
theorem same_loss (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Pursuit.samples m' c = Cert.KernelIdeal.Pursuit.samples m c)
    (h1 : Cert.ReferenceIdeal.Pursuit.dictionary m' c = Cert.KernelIdeal.Pursuit.dictionary m c) (i : Cert.KernelIdeal.S1x1.Idx) :
    (Cert.ReferenceIdeal.Pursuit.out m' c : FVec Ideal Cert.ReferenceIdeal.S1x1 .f32) i
      = ((Cert.KernelIdeal.Pursuit.dat m 0 c).arrAt 3 Cert.KernelIdeal.cfg0.N : FVec Ideal Cert.KernelIdeal.S1x1 .f32) i := by
  have hk := (congrFun (Cert.KernelIdeal.Pursuit.result_eq m c) i).trans
    (Cert.KernelIdeal.Pursuit.out_eq (Cert.KernelIdeal.Pursuit.dictionary m c) (Cert.KernelIdeal.Pursuit.samples m c) i)
  have hr := Cert.ReferenceIdeal.Pursuit.out_eq m' c i
  rw [h0, h1] at hr
  exact hr.trans ((total_eq best _).symm.trans hk.symm)

/-- The value claim: the two programs end at the same loss, their arguments unchanged. -/
theorem algebraic : Cert.algebraic_KernelIdeal_ReferenceIdeal (hKernelIdeal := Cert.KernelIdeal.Gen.facts) (hReferenceIdeal := Cert.ReferenceIdeal.Gen.facts) :=
  fun m g m' g' _ hm => ⟨fun c => (Cert.KernelIdeal.Pursuit.dat m 0 c).arrAt 3 Cert.KernelIdeal.cfg0.N,
    (θ_run _ _ _).mono (fun r h c => ⟨h.1 c, h.2.1 c⟩) (θ_run_and (Cert.KernelIdeal.Pursuit.run_result m g) (Cert.KernelIdeal.Pursuit.frame m g)),
    (θ_run _ _ _).mono (fun r h c => ⟨(h c).1.trans (funext fun i => same_loss m m' c (hm c).1 (hm c).2 i), (h c).2⟩)
      (Cert.ReferenceIdeal.Pursuit.run_result m' g')⟩

end Cert.Pursuit

end
-- ==== Proof.lean ====
module

public import proofs.«01_k».proof.Defs
public import proofs.«01_k».proof.Proof.Gen.Kernel
public import proofs.«01_k».proof.Proof.K.Same
public import proofs.«01_k».proof.Proof.Gen.KernelIdeal
public import proofs.«01_k».proof.Proof.K.Frame
public import proofs.«01_k».proof.Proof.Gen.ReferenceIdeal
public import proofs.«01_k».proof.Proof.R.Run
public import proofs.«01_k».proof.Proof.Equal

@[expose] public section

noncomputable section

namespace Cert.Proof

open Idealize.ShloMosaic Idealize.SL.Sem

/-- The five claims. -/
theorem claim : Cert.Claim := ⟨Cert.Kernel.Gen.facts, Cert.KernelIdeal.Gen.facts, Cert.ReferenceIdeal.Gen.facts,
  fun m g _ => Cert.Kernel.Pursuit.frame m g,
  fun m g _ => Cert.KernelIdeal.Pursuit.frame m g,
  fun m g _ => Cert.ReferenceIdeal.Pursuit.frame m g,
  trivial, Cert.Pursuit.algebraic⟩

end Cert.Proof

end
